-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x1024 : Shape := ⟨3, ![6, 2048, 1024]⟩
abbrev S6x2048x8 : Shape := ⟨3, ![6, 2048, 8]⟩
abbrev S2048x1024 : Shape := ⟨2, ![2048, 1024]⟩
abbrev S2048x8 : Shape := ⟨2, ![2048, 8]⟩
abbrev S6x8x2048 : Shape := ⟨3, ![6, 8, 2048]⟩
abbrev S8x2048 : Shape := ⟨2, ![8, 2048]⟩
abbrev S6x2048x2048 : Shape := ⟨3, ![6, 2048, 2048]⟩
abbrev S6x16x2048 : Shape := ⟨3, ![6, 16, 2048]⟩
abbrev S1x512x1024 : Shape := ⟨3, ![1, 512, 1024]⟩
abbrev S1x8x512 : Shape := ⟨3, ![1, 8, 512]⟩
abbrev S1x512x2048 : Shape := ⟨3, ![1, 512, 2048]⟩
abbrev S1x16x512 : Shape := ⟨3, ![1, 16, 512]⟩
abbrev S512x1024 : Shape := ⟨2, ![512, 1024]⟩
abbrev S8x512 : Shape := ⟨2, ![8, 512]⟩
abbrev S512x8 : Shape := ⟨2, ![512, 8]⟩
abbrev S512x128 : Shape := ⟨2, ![512, 128]⟩
abbrev S512x1 : Shape := ⟨2, ![512, 1]⟩
abbrev S256x1024 : Shape := ⟨2, ![256, 1024]⟩
abbrev S512x256 : Shape := ⟨2, ![512, 256]⟩
abbrev S512 : Shape := ⟨1, ![512]⟩
abbrev S1x512x128 : Shape := ⟨3, ![1, 512, 128]⟩
abbrev S512x16 : Shape := ⟨2, ![512, 16]⟩
abbrev S16x512 : Shape := ⟨2, ![16, 512]⟩

abbrev nBuf : Space → Nat
  | .hbm => 11
  | .vmem => 15
  | .smem => 0
  | _ => 0

abbrev bufTy : (tb : Table) → Fin (tcTables nBuf tb) → BufTy
  | .hbm, ⟨0, _⟩ => ⟨S6x2048x1024, .fp8e4m3⟩
  | .hbm, ⟨1, _⟩ => ⟨S6x2048x8, .f32⟩
  | .hbm, ⟨2, _⟩ => ⟨S2048x1024, .fp8e4m3⟩
  | .hbm, ⟨3, _⟩ => ⟨S2048x8, .f32⟩
  | .hbm, ⟨4, _⟩ => ⟨S2048x1024, .fp8e4m3⟩
  | .hbm, ⟨5, _⟩ => ⟨S2048x8, .f32⟩
  | .hbm, ⟨6, _⟩ => ⟨S6x8x2048, .f32⟩
  | .hbm, ⟨7, _⟩ => ⟨S8x2048, .f32⟩
  | .hbm, ⟨8, _⟩ => ⟨S8x2048, .f32⟩
  | .hbm, ⟨9, _⟩ => ⟨S6x2048x2048, .fp8e4m3⟩
  | .hbm, ⟨10, _⟩ => ⟨S6x16x2048, .f32⟩
  | .local _ .vmem, ⟨0, _⟩ => ⟨S1x512x1024, .fp8e4m3⟩
  | .local _ .vmem, ⟨1, _⟩ => ⟨S1x512x1024, .fp8e4m3⟩
  | .local _ .vmem, ⟨2, _⟩ => ⟨S1x8x512, .f32⟩
  | .local _ .vmem, ⟨3, _⟩ => ⟨S1x8x512, .f32⟩
  | .local _ .vmem, ⟨4, _⟩ => ⟨S2048x1024, .fp8e4m3⟩
  | .local _ .vmem, ⟨5, _⟩ => ⟨S8x2048, .f32⟩
  | .local _ .vmem, ⟨6, _⟩ => ⟨S2048x1024, .fp8e4m3⟩
  | .local _ .vmem, ⟨7, _⟩ => ⟨S8x2048, .f32⟩
  | .local _ .vmem, ⟨8, _⟩ => ⟨S1x512x2048, .fp8e4m3⟩
  | .local _ .vmem, ⟨9, _⟩ => ⟨S1x512x2048, .fp8e4m3⟩
  | .local _ .vmem, ⟨10, _⟩ => ⟨S1x16x512, .f32⟩
  | .local _ .vmem, ⟨11, _⟩ => ⟨S1x16x512, .f32⟩
  | .local _ .vmem, ⟨12, _⟩ => ⟨S512x1024, .bf16⟩
  | .local _ .vmem, ⟨13, _⟩ => ⟨S2048x1024, .bf16⟩
  | .local _ .vmem, ⟨14, _⟩ => ⟨S2048x1024, .bf16⟩
  | _, _ => ⟨S6x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S6x2048x1024 : Shape := ⟨3, ![6, 2048, 1024]⟩
abbrev S6x2048x8 : Shape := ⟨3, ![6, 2048, 8]⟩
abbrev S2048x1024 : Shape := ⟨2, ![2048, 1024]⟩
abbrev S2048x8 : Shape := ⟨2, ![2048, 8]⟩
abbrev S6x2048x2048 : Shape := ⟨3, ![6, 2048, 2048]⟩
abbrev S6x16x2048 : Shape := ⟨3, ![6, 16, 2048]⟩
abbrev S12288x8x128 : Shape := ⟨3, ![12288, 8, 128]⟩
abbrev S12288x8 : Shape := ⟨2, ![12288, 8]⟩
abbrev S12288x8x1 : Shape := ⟨3, ![12288, 8, 1]⟩
abbrev S12288x1024 : Shape := ⟨2, ![12288, 1024]⟩
abbrev S2048x8x128 : Shape := ⟨3, ![2048, 8, 128]⟩
abbrev S2048x8x1 : Shape := ⟨3, ![2048, 8, 1]⟩
abbrev S12288x2048 : Shape := ⟨2, ![12288, 2048]⟩
abbrev S6x2048x16x128 : Shape := ⟨4, ![6, 2048, 16, 128]⟩
abbrev S6x2048x16 : Shape := ⟨3, ![6, 2048, 16]⟩
abbrev S6x2048x16x246 : Shape := ⟨4, ![6, 2048, 16, 246]⟩
abbrev S6x2048x16x1 : Shape := ⟨4, ![6, 2048, 16, 1]⟩

abbrev nBuf : Space → Nat
  | .hbm => 8
  | .vmem => 8
  | .smem => 0
  | _ => 0

abbrev bufTy : (tb : Table) → Fin (tcTables nBuf tb) → BufTy
  | .hbm, ⟨0, _⟩ => ⟨S6x2048x1024, .fp8e4m3⟩
  | .hbm, ⟨1, _⟩ => ⟨S6x2048x8, .f32⟩
  | .hbm, ⟨2, _⟩ => ⟨S2048x1024, .fp8e4m3⟩
  | .hbm, ⟨3, _⟩ => ⟨S2048x8, .f32⟩
  | .hbm, ⟨4, _⟩ => ⟨S2048x1024, .fp8e4m3⟩
  | .hbm, ⟨5, _⟩ => ⟨S2048x8, .f32⟩
  | .hbm, ⟨6, _⟩ => ⟨S6x2048x2048, .fp8e4m3⟩
  | .hbm, ⟨7, _⟩ => ⟨S6x16x2048, .f32⟩
  | .local _ .vmem, ⟨0, _⟩ => ⟨S6x2048x1024, .fp8e4m3⟩
  | .local _ .vmem, ⟨1, _⟩ => ⟨S6x2048x8, .f32⟩
  | .local _ .vmem, ⟨2, _⟩ => ⟨S2048x1024, .fp8e4m3⟩
  | .local _ .vmem, ⟨3, _⟩ => ⟨S2048x8, .f32⟩
  | .local _ .vmem, ⟨4, _⟩ => ⟨S2048x1024, .fp8e4m3⟩
  | .local _ .vmem, ⟨5, _⟩ => ⟨S2048x8, .f32⟩
  | .local _ .vmem, ⟨6, _⟩ => ⟨S6x2048x2048, .fp8e4m3⟩
  | .local _ .vmem, ⟨7, _⟩ => ⟨S6x16x2048, .f32⟩
  | _, _ => ⟨S6x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x2048x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Math.lean ====
module
public import Idealize.ShloMosaic.Lib.Pointwise
@[expose] public section
set_option maxRecDepth 16384

/-! The problem's mathematics over the extended reals, and the quantiser's exponent: the search through the bits of the
    exponent's field and the greatest power of two that is reached give the same scale and the same reciprocal. -/

noncomputable section
namespace Cert.Math
open Idealize.ShloMosaic

/-- `2 ^ x`. -/
abbrev pow2 (x : EReal) : EReal := FloatOps.exp2 (F := Ideal) (φ := .f32) x

/-- The exponent that stands at place `k` of the reference's row of exponents: `k - 126`. -/
abbrev place (k : Fin 246) : EReal :=
  FloatOps.sitofp (F := Ideal) .f32 (BitVec.ofNat 32 k.val) - Ideal.ofBits .f32 1123811328#32

/-- The exponent of the scale: zero below `2 ^ -126`, else one more than the greatest exponent whose power is reached. -/
def expo (y : EReal) : EReal :=
  if y < Ideal.ofBits .f32 8388608#32 then 0
  else (Finset.univ : Finset (Fin 246)).fold max (Ideal.ofBits .f32 4286578688#32)
      (fun k => if pow2 (place k) ≤ y then place k else Ideal.ofBits .f32 3271426048#32) + 1

/-- The greatest magnitude of a group, over 448. -/
def quot (h : Fin 128 → EReal) : EReal :=
  (Finset.univ : Finset (Fin 128)).fold max (Ideal.ofBits .f32 4286578688#32)
    (fun x => FloatOps.absf (F := Ideal) (φ := .f32) (h x)) * Ideal.ofBits .f32 991054117#32

/-- The code of `v` under the reciprocal `r` of a scale: the product, clamped. -/
def code (v r : EReal) : EReal :=
  min (Ideal.ofBits .f32 1138753536#32) (max (Ideal.ofBits .f32 3286237184#32) (v * r))

/-- The hidden unit of a gate and an up product. -/
def silu (g u : EReal) : EReal := g * Ideal.logistic g * u

/-- The exponent field `j` as a word. -/
abbrev W (j : ℕ) : BitVec 32 := BitVec.ofNat 32 (j * 8388608)

/-- What that word denotes. -/
def pw (j : ℕ) : EReal := Ideal.ofBits .f32 (W j)

/-- The exponent field and the fraction of that word. -/
theorem W_bits : ∀ j : Fin 256, ((W j.val).extractLsb' 23 8).toNat = j.val ∧ ((W j.val).extractLsb' 0 23).toNat = 0
    ∧ ((W j.val).extractLsb' (8 + 23) 1 == 1#1) = false := by decide +kernel

/-- What a word that is no special value denotes, from its three fields. -/
theorem ofBits_fields (b : BitVec 32) (ex fr : ℕ) (neg : Bool) (he : (b.extractLsb' 23 8).toNat = ex)
    (hf : (b.extractLsb' 0 23).toNat = fr) (hn : (b.extractLsb' (8 + 23) 1 == 1#1) = neg) (h0 : ex ≠ 0) (h1 : ex ≠ 255) :
    Ideal.ofBits .f32 b
      = (((if neg then -1 else 1 : ℝ) * (2 ^ 23 + fr : ℕ) * (2 : ℝ) ^ ((ex : ℤ) - 127 - 23) : ℝ) : EReal) := by
  have h1' : ¬ex = 2 ^ 8 - 1 := h1
  simp only [Ideal.ofBits, Ideal.ieee, he, hf, hn, h0, h1', if_false]
  norm_num

/-- A field between 1 and 254 denotes a power of two. -/
theorem pw_coe (j : ℕ) (h1 : 1 ≤ j) (h2 : j ≤ 254) : pw j = (((2 : ℝ) ^ ((j : ℤ) - 127) : ℝ) : EReal) := by
  obtain ⟨he, hf, hn⟩ := W_bits ⟨j, by omega⟩
  unfold pw
  rw [ofBits_fields _ j 0 false he hf hn (by omega) (by omega)]
  congr 1
  have : (2 : ℝ) ^ ((j : ℤ) - 127) = 2 ^ 23 * (2 : ℝ) ^ ((j : ℤ) - 127 - 23) := by
    rw [show (2 : ℝ) ^ 23 = (2 : ℝ) ^ (23 : ℤ) by norm_cast, ← zpow_add₀ (by norm_num)]
    congr 1; ring
  rw [this]
  norm_num

/-- Field 255 denotes infinity. -/
theorem pw_top : pw 255 = ⊤ := by
  obtain ⟨he, hf, hn⟩ := W_bits ⟨255, by omega⟩
  dsimp only at he hf hn
  simp only [pw, Ideal.ofBits, Ideal.ieee, he, hf, hn]
  simp

/-- A greater field denotes a greater number. -/
theorem pw_mono (i j : ℕ) (h1 : 1 ≤ i) (hij : i ≤ j) (h2 : j ≤ 255) : pw i ≤ pw j := by
  rcases Nat.lt_or_ge j 255 with h | h
  · rw [pw_coe i h1 (by omega), pw_coe j (by omega) (by omega)]
    exact EReal.coe_le_coe_iff.2 (zpow_le_zpow_right₀ (by norm_num) (by omega))
  · obtain rfl : j = 255 := by omega
    rw [pw_top]; exact le_top

/-! ## The search -/

/-- One step of the search. -/
def step (y : EReal) (f w : BitVec 32) : BitVec 32 :=
  if y < Ideal.ofBits .f32 (IntOp.ori f w) then f else IntOp.ori f w

/-- The word of the scale. -/
def word (y : EReal) : BitVec 32 :=
  let f := IntOp.minsi (step y (step y (step y (step y (step y (step y (step y (step y 0#32
    1073741824#32) 536870912#32) 268435456#32) 134217728#32) 67108864#32) 33554432#32) 16777216#32) 8388608#32) 2063597568#32
  Scalar.select (IntOp.cmpi .eq f 0#32) 1065353216#32 (IntOp.addi f 8388608#32)

/-- What holds of field `j` once the bits from `k` up are decided. -/
def Inv (y : EReal) (k j : ℕ) : Prop :=
  j % 2 ^ k = 0 ∧ j + 2 ^ k ≤ 256 ∧ (j = 0 ∨ pw j ≤ y) ∧ (j + 2 ^ k = 256 ∨ y < pw (j + 2 ^ k))

/-- Setting a bit of a field whose lower bits are clear adds its weight. -/
theorem ori_W : ∀ (k : Fin 8) (j : Fin 256), j.val % 2 ^ (k.val + 1) = 0 →
    IntOp.ori (W j.val) (W (2 ^ k.val)) = W (j.val + 2 ^ k.val) := by
  decide +kernel

/-- One step of the search keeps the invariant. -/
theorem step_inv (y : EReal) (k : ℕ) (hk : k < 8) (f w : BitVec 32) (hw : w = W (2 ^ k))
    (h : ∃ j, f = W j ∧ Inv y (k + 1) j) : ∃ j, step y f w = W j ∧ Inv y k j := by
  obtain ⟨j, rfl, hm, hb, hlo, hhi⟩ := h
  subst hw
  have hp : 2 ^ (k + 1) = 2 ^ k + 2 ^ k := by rw [pow_succ]; ring
  have hpos : 0 < 2 ^ k := Nat.pos_of_ne_zero (by positivity)
  have ho := ori_W ⟨k, hk⟩ ⟨j, by omega⟩ hm
  dsimp only at ho
  unfold step
  rw [ho]
  have hd : 2 ^ k ∣ j := (pow_dvd_pow 2 (Nat.le_succ k)).trans (Nat.dvd_of_mod_eq_zero hm)
  by_cases hy : y < Ideal.ofBits .f32 (W (j + 2 ^ k))
  · rw [if_pos hy]
    exact ⟨j, rfl, Nat.mod_eq_zero_of_dvd hd, by omega, hlo, Or.inr hy⟩
  · rw [if_neg hy]
    refine ⟨j + 2 ^ k, rfl, Nat.mod_eq_zero_of_dvd (Dvd.dvd.add hd dvd_rfl), by omega, Or.inr (not_lt.1 hy), ?_⟩
    rw [add_assoc, ← hp]
    exact hhi

/-- The eight steps find a field that `y` reaches and whose successor it does not. -/
theorem search (y : EReal) : ∃ j, step y (step y (step y (step y (step y (step y (step y (step y 0#32
    1073741824#32) 536870912#32) 268435456#32) 134217728#32) 67108864#32) 33554432#32) 16777216#32) 8388608#32 = W j
    ∧ j ≤ 255 ∧ (j = 0 ∨ pw j ≤ y) ∧ (j = 255 ∨ y < pw (j + 1)) := by
  have h8 : ∃ j, (0#32 : BitVec 32) = W j ∧ Inv y 8 j := ⟨0, rfl, rfl, by norm_num, Or.inl rfl, Or.inl (by norm_num)⟩
  have h7 := step_inv y 7 (by omega) _ 1073741824#32 (by decide) h8
  have h6 := step_inv y 6 (by omega) _ 536870912#32 (by decide) h7
  have h5 := step_inv y 5 (by omega) _ 268435456#32 (by decide) h6
  have h4 := step_inv y 4 (by omega) _ 134217728#32 (by decide) h5
  have h3 := step_inv y 3 (by omega) _ 67108864#32 (by decide) h4
  have h2 := step_inv y 2 (by omega) _ 33554432#32 (by decide) h3
  have h1 := step_inv y 1 (by omega) _ 16777216#32 (by decide) h2
  obtain ⟨j, hj, -, hb, hlo, hhi⟩ := step_inv y 0 (by omega) _ 8388608#32 (by decide) h1
  refine ⟨j, hj, by omega, hlo, ?_⟩
  rcases hhi with h | h
  · left; omega
  · right; exact h

/-- The cap acts on the field. -/
theorem minsi_W : ∀ j : Fin 256, IntOp.minsi (W j.val) 2063597568#32 = W (min j.val 246) := by decide +kernel

/-- The choice of the scale's word: that of one at field zero, else the next field. -/
theorem select_W : ∀ j : Fin 247, Scalar.select (IntOp.cmpi .eq (W j.val) 0#32) 1065353216#32 (IntOp.addi (W j.val) 8388608#32)
    = if j.val = 0 then W 127 else W (j.val + 1) := by decide +kernel

/-- The word of the reciprocal has the opposite exponent. -/
theorem sub_W : ∀ j : Fin 254, IntOp.subi 2130706432#32 (W j.val) = W (254 - j.val) := by decide +kernel

/-- The word of the scale is one more than the field of the greatest power of two reached, capped at `2 ^ 119`. -/
theorem word_eq (y : EReal) : (y < pw 1 ∧ word y = W 127)
    ∨ ∃ j, 1 ≤ j ∧ j ≤ 246 ∧ pw j ≤ y ∧ (j = 246 ∨ y < pw (j + 1)) ∧ word y = W (j + 1) := by
  obtain ⟨j, hj, hb, hlo, hhi⟩ := search y
  have hw : word y = if min j 246 = 0 then W 127 else W (min j 246 + 1) := by
    unfold word
    rw [hj]
    have e := minsi_W ⟨j, by omega⟩
    dsimp only at e ⊢
    rw [e]
    exact select_W ⟨min j 246, by omega⟩
  rcases Nat.eq_zero_or_pos j with h0 | h0
  · left
    subst h0
    refine ⟨?_, by simpa using hw⟩
    rcases hhi with h | h
    · omega
    · exact h
  · right
    have hjy : pw j ≤ y := hlo.resolve_left (by omega)
    refine ⟨min j 246, by omega, by omega, (pw_mono _ _ (by omega) (by omega) (by omega)).trans hjy, ?_, ?_⟩
    · rcases Nat.lt_or_ge j 246 with h | h
      · right
        rw [Nat.min_eq_left (by omega)]
        exact hhi.resolve_left (by omega)
      · left; omega
    · rw [hw, if_neg (by omega)]

/-! ## The reference's exponent -/

/-- The word of 126. -/
theorem ofBits_126 : Ideal.ofBits .f32 1123811328#32 = ((126 : ℝ) : EReal) := by
  rw [ofBits_fields _ 133 8126464 false (by decide) (by decide) (by decide) (by decide) (by decide)]
  congr 1
  norm_num

/-- The word of -127. -/
theorem ofBits_m127 : Ideal.ofBits .f32 3271426048#32 = ((-127 : ℝ) : EReal) := by
  rw [ofBits_fields _ 133 8257536 true (by decide) (by decide) (by decide) (by decide) (by decide)]
  congr 1
  norm_num

/-- The word of minus infinity. -/
theorem ofBits_bot : Ideal.ofBits .f32 4286578688#32 = ⊥ := by
  simp [Ideal.ofBits, Ideal.ieee]

/-- A place in the row of exponents, as a signed word. -/
theorem toInt_ofNat (k : Fin 246) : (BitVec.ofNat 32 k.val).toInt = (k.val : ℤ) := by
  revert k; decide +kernel

/-- The exponent at place `k`, as a real number. -/
theorem place_eq (k : Fin 246) : place k = (((k.val : ℝ) - 126 : ℝ) : EReal) := by
  have : (FloatOps.sitofp (F := Ideal) .f32 (BitVec.ofNat 32 k.val) : EReal) = (((BitVec.ofNat 32 k.val).toInt : ℝ) : EReal) := rfl
  unfold place
  rw [this, toInt_ofNat, ofBits_126, EReal.coe_sub]
  simp

/-- Two to a real number. -/
theorem pow2_coe (r : ℝ) : pow2 (r : EReal) = ((Real.rpow 2 r : ℝ) : EReal) := rfl

/-- An integer's power of two, as a field denotes it. -/
theorem pow2_int (j : ℕ) (h1 : 1 ≤ j) (h2 : j ≤ 254) : pow2 (((j : ℝ) - 127 : ℝ) : EReal) = pw j := by
  rw [pow2_coe, pw_coe j h1 h2]
  congr 1
  rw [show ((j : ℝ) - 127) = (((j : ℤ) - 127 : ℤ) : ℝ) by push_cast; ring]
  exact Real.rpow_intCast 2 _

/-- Two to the exponent at place `k` is what field `k + 1` denotes. -/
theorem pow2_place (k : Fin 246) : pow2 (place k) = pw (k.val + 1) := by
  rw [place_eq, ← pow2_int (k.val + 1) (by omega) (by omega)]
  congr 2
  push_cast; ring

/-- Below `2 ^ -126` the exponent is zero. -/
theorem expo_small (y : EReal) (h : y < pw 1) : expo y = 0 := if_pos h

/-- Where `y` reaches field `j` and not the next, or `j` is the cap, the exponent is `j - 126`. -/
theorem expo_large (y : EReal) (j : ℕ) (h1 : 1 ≤ j) (h2 : j ≤ 246) (hlo : pw j ≤ y) (hhi : j = 246 ∨ y < pw (j + 1)) :
    expo y = (((j + 1 : ℕ) : ℝ) - 127 : ℝ) := by
  have hn : ¬y < Ideal.ofBits .f32 8388608#32 := not_lt.2 ((pw_mono 1 j (by omega) h1 (by omega)).trans hlo)
  unfold expo
  rw [if_neg hn]
  have hf : (Finset.univ : Finset (Fin 246)).fold max (Ideal.ofBits .f32 4286578688#32)
      (fun k => if pow2 (place k) ≤ y then place k else Ideal.ofBits .f32 3271426048#32) = ((j : ℝ) - 127 : ℝ) := by
    apply le_antisymm
    · rw [Finset.fold_max_le]
      refine ⟨by rw [ofBits_bot]; exact bot_le, fun k _ => ?_⟩
      split
      · next hk =>
        rw [pow2_place] at hk
        have hkj : k.val + 1 ≤ j := by
          by_contra hlt
          rcases hhi with h | h
          · have := k.isLt; omega
          · exact absurd (lt_of_lt_of_le h (pw_mono (j + 1) (k.val + 1) (by omega) (by omega) (by have := k.isLt; omega)))
              (not_lt.2 hk)
        rw [place_eq]
        apply EReal.coe_le_coe_iff.2
        have : ((k.val + 1 : ℕ) : ℝ) ≤ (j : ℝ) := by exact_mod_cast hkj
        push_cast at this; linarith
      · rw [ofBits_m127]
        apply EReal.coe_le_coe_iff.2
        have : (0 : ℝ) ≤ j := by positivity
        linarith
    · rw [Finset.le_fold_max]
      right
      refine ⟨⟨j - 1, by omega⟩, Finset.mem_univ _, ?_⟩
      rw [if_pos (by rw [pow2_place]; dsimp only; rwa [Nat.sub_add_cancel h1]), place_eq]
      apply EReal.coe_le_coe_iff.2
      dsimp only
      rw [Nat.cast_sub h1]
      push_cast; linarith
  rw [hf, ← EReal.coe_one, ← EReal.coe_add]
  congr 1
  push_cast; ring

/-- The search's scale is the power of two of the reference's exponent. -/
theorem scale_eq (y : EReal) : Ideal.ofBits .f32 (word y) = pow2 (expo y) := by
  rcases word_eq y with ⟨hy, hw⟩ | ⟨j, h1, h2, hlo, hhi, hw⟩
  · rw [hw, expo_small y hy, ← EReal.coe_zero]
    have := pow2_int 127 (by omega) (by omega)
    norm_num at this
    exact this.symm
  · rw [hw, expo_large y j h1 h2 hlo hhi]
    exact (pow2_int (j + 1) (by omega) (by omega)).symm

/-- The search's reciprocal is the power of two of minus that exponent. -/
theorem inv_eq (y : EReal) : Ideal.ofBits .f32 (IntOp.subi 2130706432#32 (word y)) = pow2 (0 - expo y) := by
  rcases word_eq y with ⟨hy, hw⟩ | ⟨j, h1, h2, hlo, hhi, hw⟩
  · rw [hw, expo_small y hy, sub_zero, ← EReal.coe_zero, sub_W ⟨127, by omega⟩]
    have := pow2_int 127 (by omega) (by omega)
    norm_num at this
    exact this.symm
  · rw [hw, expo_large y j h1 h2 hlo hhi, sub_W ⟨j + 1, by omega⟩, ← EReal.coe_zero, ← EReal.coe_sub]
    refine Eq.trans ?_ ((pow2_int (254 - (j + 1)) (by omega) (by omega)).symm.trans ?_)
    · rfl
    · congr 2
      rw [Nat.cast_sub (by omega)]
      push_cast; ring

/-! ## The arrays -/

section
variable (a0 : (⟨3, ![6, 2048, 1024]⟩ : Shape).Idx → EReal) (a1 : (⟨3, ![6, 2048, 8]⟩ : Shape).Idx → EReal)
  (a2 a4 : (⟨2, ![2048, 1024]⟩ : Shape).Idx → EReal) (a3 a5 : (⟨2, ![2048, 8]⟩ : Shape).Idx → EReal)

/-- The group of 128 that holds column `k`. -/
abbrev grp (k : Fin 1024) : Fin 8 := ⟨k.val / 128, by omega⟩

/-- A row of the activations times a row of a weight, both widened. -/
def dot (w : (⟨2, ![2048, 1024]⟩ : Shape).Idx → EReal) (ws : (⟨2, ![2048, 8]⟩ : Shape).Idx → EReal)
    (b : Fin 6) (s f : Fin 2048) : EReal :=
  ∑ k : Fin 1024, a0 (ix3 b s k) * a1 (ix3 b s (grp k)) * (w (ix2 f k) * ws (ix2 f (grp k)))

/-- The hidden unit `f` of row `(b, s)`. -/
def hidden (b : Fin 6) (s f : Fin 2048) : EReal := silu (dot a0 a1 a2 a3 b s f) (dot a0 a1 a4 a5 b s f)

/-- The exponent of the scale of group `q` of row `(b, s)`. -/
def exponent (b : Fin 6) (s : Fin 2048) (q : Fin 16) : EReal :=
  expo (quot fun x => hidden a0 a1 a2 a4 a3 a5 b s ⟨q.val * 128 + x.val, by omega⟩)

/-- The codes. -/
def Codes (b : Fin 6) (s f : Fin 2048) : EReal :=
  code (hidden a0 a1 a2 a4 a3 a5 b s f) (pow2 (0 - exponent a0 a1 a2 a4 a3 a5 b s ⟨f.val / 128, by omega⟩))

/-- The scales. -/
def Scales (b : Fin 6) (q : Fin 16) (s : Fin 2048) : EReal := pow2 (exponent a0 a1 a2 a4 a3 a5 b s q)
end

end Cert.Math
end
-- ==== Proof.Reference.lean ====
module
public import proofs.«01_k».proof.Proof.Gen.ReferenceIdeal.Value
public import proofs.«01_k».proof.Proof.Math
@[expose] public section
set_option maxRecDepth 16384

/-! The reference's two results, index by index: the codes and the scales of `Cert.Math`. -/

noncomputable section
namespace Cert.ReferenceIdeal.Read
open Cert.ReferenceIdeal Cert.ReferenceIdeal.Gen Cert.ReferenceIdeal.Value Cert.Math Idealize.ShloMosaic Idealize.ShloMosaic.TcCoe Idealize.SL.Sem

/-- A maximum over the last of four axes, read at an index. -/
theorem max_last {n : ℕ} (h : (⟨4, ![6, 2048, 16, n]⟩ : Shape).Reduces [3] S6x2048x16)
    (v : FVec Ideal ⟨4, ![6, 2048, 16, n]⟩ .f32) (hφ : FKind.Formats .f32) (hacc : (0xFF800000#32 : BitVec 32) = FKind.maximumf.neutral .f32 hφ)
    (j0 : Fin 6) (j1 : Fin 2048) (j2 : Fin 16) :
    multiReduction .maximumf [3] S6x2048x16 v 0xFF800000#32 h hφ hacc (ix3 j0 j1 j2)
      = (Finset.univ : Finset (Fin n)).fold max (Ideal.ofBits .f32 4286578688#32) fun k => v (ix4 j0 j1 j2 k) := by
  refine (Ideal.multiReduction_maximumf_single v _ h hφ hacc _).trans ?_
  refine congrArg (fun f => Finset.fold max (Ideal.ofBits .f32 4286578688#32) f Finset.univ) ?_
  funext k
  refine congrArg v (funext fun c => Fin.ext ?_)
  rw [h.lift_val]
  match c with
  | ⟨0, _⟩ => rfl
  | ⟨1, _⟩ => rfl
  | ⟨2, _⟩ => rfl
  | ⟨3, _⟩ => rfl

variable (a0 : Vec Ideal S6x2048x1024 .fp8e4m3) (a1 : Vec Ideal S6x2048x8 .f32) (a2 : Vec Ideal S2048x1024 .fp8e4m3) (a3 : Vec Ideal S2048x8 .f32) (a4 : Vec Ideal S2048x1024 .fp8e4m3) (a5 : Vec Ideal S2048x8 .f32)

/-- The quotients, as the scales' part names them, are the quotients. -/
theorem pay8_eq : k0_pay8 a0 a1 a2 a3 a4 a5 = k0_pay5 a0 a1 a2 a3 a4 a5 := by
  unfold k0_pay8
  rw [View.ld_unit_zero (S := S6x2048x1024) hz0 _ a0, View.ld_unit_zero (S := S6x2048x8) hz1 _ a1, View.ld_unit_zero (S := S2048x1024) hz2 _ a2, View.ld_unit_zero (S := S2048x8) hz3 _ a3, View.ld_unit_zero (S := S2048x1024) hz4 _ a4, View.ld_unit_zero (S := S2048x8) hz5 _ a5]

/-- The hidden units, at an index. -/
theorem pay4_at (j0 : Fin 6) (j1 : Fin 2048) (j2 : Fin 16) (j3 : Fin 128) :
    k0_pay4 a0 a1 a2 a3 a4 a5 (ix4 j0 j1 j2 j3) = hidden a0 a1 a2 a4 a3 a5 j0 j1 ⟨j2.val * 128 + j3.val, by omega⟩ := by
  pointwise [k0_pay4]
  rfl

/-- The places `0` to `245` of the row of exponents, as the scales' part names them. -/
theorem pay9_eq : k0_pay9 a0 a1 a2 a3 a4 a5 = k0_pay6 (F := Ideal) := by unfold k0_pay9; rfl

/-- The 126 that is taken from them, as the scales' part names it. -/
theorem pay10_eq : k0_pay10 a0 a1 a2 a3 a4 a5 = k0_pay7 (F := Ideal) := by unfold k0_pay10; rfl

/-- The group maxima over the largest code, of any hidden array. -/
def groupMax (h : FVec Ideal S6x2048x16x128 .f32) : FVec Ideal S6x2048x16 .f32 :=
  multiReduction .maximumf [3] S6x2048x16 (absf h) 0xFF800000#32 reduces_S6x2048x16x128_S6x2048x16 (.inl rfl) rfl

/-- The group maxima, at an index. -/
theorem groupMax_at (h : FVec Ideal S6x2048x16x128 .f32) (j0 : Fin 6) (j1 : Fin 2048) (j2 : Fin 16) :
    groupMax h (ix3 j0 j1 j2)
      = (Finset.univ : Finset (Fin 128)).fold max (Ideal.ofBits .f32 4286578688#32) fun x => FloatOps.absf (F := Ideal) (φ := .f32) (h (ix4 j0 j1 j2 x)) :=
  max_last (n := 128) reduces_S6x2048x16x128_S6x2048x16 (absf h) (.inl rfl) rfl j0 j1 j2

/-- A maximum over 448, at an index. -/
theorem scaled_at (M : FVec Ideal S6x2048x16 .f32) (j0 : Fin 6) (j1 : Fin 2048) (j2 : Fin 16) :
    mulf M (broadcast S6x2048x16 (Scalar.ofBits .f32 0x3B124925#32)) (ix3 j0 j1 j2) = M (ix3 j0 j1 j2) * Ideal.ofBits .f32 991054117#32 := rfl

/-- The quotients are the group maxima over 448. -/
theorem pay5_form : k0_pay5 a0 a1 a2 a3 a4 a5 = mulf (groupMax (k0_pay4 a0 a1 a2 a3 a4 a5)) (broadcast S6x2048x16 (Scalar.ofBits .f32 0x3B124925#32)) := by
  unfold k0_pay5 groupMax
  generalize k0_pay4 a0 a1 a2 a3 a4 a5 = h
  exact Eq.refl _

/-- The quotients, at an index. -/
theorem pay5_at (j0 : Fin 6) (j1 : Fin 2048) (j2 : Fin 16) :
    k0_pay5 a0 a1 a2 a3 a4 a5 (ix3 j0 j1 j2)
      = quot fun x => hidden a0 a1 a2 a4 a3 a5 j0 j1 ⟨j2.val * 128 + x.val, by omega⟩ := by
  rw [pay5_form, scaled_at, groupMax_at]
  simp only [pay4_at]
  unfold quot
  exact Eq.refl _

/-- The row of candidates for the exponent: the exponents whose powers of two `y` reaches. -/
def cands (y : FVec Ideal S6x2048x16 .f32) : FVec Ideal S6x2048x16x246 .f32 :=
  select (cmpf .ole (exp2 (subf k0_pay6 k0_pay7)) (broadcastTo S6x2048x16x246 (shapeCast S6x2048x16x1 y shapeCasts_S6x2048x16_S6x2048x16x1) broadcasts_S6x2048x16x1_S6x2048x16x246))
    (subf k0_pay6 k0_pay7) (broadcast S6x2048x16x246 (Scalar.ofBits .f32 0xC2FE0000#32))

/-- The row of candidates, at an index. -/
theorem cands_at (y : FVec Ideal S6x2048x16 .f32) (j0 : Fin 6) (j1 : Fin 2048) (j2 : Fin 16) (k : Fin 246) :
    cands y (ix4 j0 j1 j2 k) = if pow2 (place k) ≤ y (ix3 j0 j1 j2) then place k else Ideal.ofBits .f32 3271426048#32 := by
  pointwise [cands, k0_pay6, k0_pay7]

/-- The largest candidate. -/
def top (y : FVec Ideal S6x2048x16 .f32) : FVec Ideal S6x2048x16 .f32 :=
  multiReduction .maximumf [3] S6x2048x16 (cands y) 0xFF800000#32 reduces_S6x2048x16x246_S6x2048x16 (.inl rfl) rfl

/-- The largest candidate, at an index. -/
theorem top_at (y : FVec Ideal S6x2048x16 .f32) (j0 : Fin 6) (j1 : Fin 2048) (j2 : Fin 16) :
    top y (ix3 j0 j1 j2)
      = (Finset.univ : Finset (Fin 246)).fold max (Ideal.ofBits .f32 4286578688#32) fun k => cands y (ix4 j0 j1 j2 k) :=
  max_last (n := 246) reduces_S6x2048x16x246_S6x2048x16 (cands y) (.inl rfl) rfl j0 j1 j2

/-- The exponent is chosen by whether the quotient lies below `2 ^ -126`. -/
theorem pay1_form (y : FVec Ideal S6x2048x16 .f32) : k0_pay1 y (k0_pay6 (F := Ideal)) (k0_pay7 (F := Ideal))
    = select (cmpf .olt y (broadcast S6x2048x16 (Scalar.ofBits .f32 0x00800000#32))) (broadcast S6x2048x16 (Scalar.ofBits .f32 0x00000000#32))
        (addf (top y) (broadcast S6x2048x16 (Scalar.ofBits .f32 0x3F800000#32))) := by
  unfold k0_pay1 top cands
  generalize k0_pay6 (F := Ideal) = p
  generalize k0_pay7 (F := Ideal) = q
  exact Eq.refl _

/-- That choice, at an index. -/
theorem sel_at (y M : FVec Ideal S6x2048x16 .f32) (j0 : Fin 6) (j1 : Fin 2048) (j2 : Fin 16) :
    select (cmpf .olt y (broadcast S6x2048x16 (Scalar.ofBits .f32 0x00800000#32))) (broadcast S6x2048x16 (Scalar.ofBits .f32 0x00000000#32))
        (addf M (broadcast S6x2048x16 (Scalar.ofBits .f32 0x3F800000#32))) (ix3 j0 j1 j2)
      = if y (ix3 j0 j1 j2) < Ideal.ofBits .f32 8388608#32 then 0 else M (ix3 j0 j1 j2) + 1 := by
  pointwise

/-- The exponent, at an index. -/
theorem pay1_at (y : FVec Ideal S6x2048x16 .f32) (j0 : Fin 6) (j1 : Fin 2048) (j2 : Fin 16) :
    k0_pay1 y (k0_pay6 (F := Ideal)) (k0_pay7 (F := Ideal)) (ix3 j0 j1 j2) = expo (y (ix3 j0 j1 j2)) := by
  rw [pay1_form, sel_at, top_at]
  simp only [cands_at]
  unfold expo
  exact Eq.refl _

/-- The scales, at an index. -/
theorem pay3_at (y : FVec Ideal S6x2048x16 .f32) (p q : FVec Ideal S6x2048x16x246 .f32) (b : Fin 6) (g : Fin 16) (s : Fin 2048) :
    k0_pay3 y p q (ix3 b g s) = pow2 (k0_pay1 y p q (ix3 b s g)) := by
  unfold k0_pay3
  dsimp only
  generalize k0_pay1 y p q = E
  pointwise

/-- The codes, at an index. -/
theorem pay2_at (h : FVec Ideal S6x2048x16x128 .f32) (y : FVec Ideal S6x2048x16 .f32) (p q : FVec Ideal S6x2048x16x246 .f32)
    (b : Fin 6) (s f : Fin 2048) :
    k0_pay2 h y p q (ix3 b s f)
      = code (h (ix4 b s ⟨f.val / 128, by omega⟩ ⟨f.val % 128, by omega⟩)) (pow2 (0 - k0_pay1 y p q (ix3 b s ⟨f.val / 128, by omega⟩))) := by
  unfold k0_pay2
  generalize k0_pay1 y p q = E
  pointwise [code]

/-- The reference's codes are `Codes` of its arguments. -/
theorem codes_at (b : Fin 6) (s f : Fin 2048) :
    G6 a0 a1 a2 a3 a4 a5 (ix3 b s f) = Codes a0 a1 a2 a4 a3 a5 b s f := by
  show k0_pay2 (k0_pay4 a0 a1 a2 a3 a4 a5) (k0_pay8 a0 a1 a2 a3 a4 a5) (k0_pay9 a0 a1 a2 a3 a4 a5) (k0_pay10 a0 a1 a2 a3 a4 a5) (ix3 b s f) = _
  rw [pay8_eq, pay9_eq, pay10_eq, pay2_at, pay1_at, pay5_at, pay4_at]
  have e : (⟨f.val / 128 * 128 + f.val % 128, by omega⟩ : Fin 2048) = f := Fin.ext (by dsimp only; omega)
  unfold Codes exponent
  exact congrArg (fun f' => code (hidden a0 a1 a2 a4 a3 a5 b s f') _) e

/-- The reference's scales are `Scales` of its arguments. -/
theorem scales_at (b : Fin 6) (q : Fin 16) (s : Fin 2048) :
    G7 a0 a1 a2 a3 a4 a5 (ix3 b q s) = Scales a0 a1 a2 a4 a3 a5 b q s := by
  show k0_pay3 (k0_pay8 a0 a1 a2 a3 a4 a5) (k0_pay9 a0 a1 a2 a3 a4 a5) (k0_pay10 a0 a1 a2 a3 a4 a5) (ix3 b q s) = _
  rw [pay8_eq, pay9_eq, pay10_eq, pay3_at, pay1_at, pay5_at]
  unfold Scales exponent
  exact Eq.refl _

end Cert.ReferenceIdeal.Read
end
-- ==== Proof.Block.lean ====
module
public import proofs.«01_k».proof.Proof.Gen.KernelIdeal.Value
@[expose] public section
set_option maxRecDepth 16384

/-! The pieces that one grid point of the kernel stores, as one function of the widened x block and of the widened weights,
    the same at the first point (which widens the weights into its scratch) and at the later ones (which find them there). -/

noncomputable section
namespace Cert.KernelIdeal.Step
open Cert.KernelIdeal Cert.KernelIdeal.Gen Idealize.ShloMosaic Idealize.ShloMosaic.TcCoe Idealize.SL.Sem
variable {F : FTy → Type} [FloatOps F]

/-! ## Widening -/

/-- One group of 128 columns, widened: the codes times the group's scale, both in bfloat16. -/
def part (o q : ℕ) (ho : S512x1024.Slices ![0, o] S512x128) (hq : S512x8.Slices ![0, q] S512x1)
    (x : FVec F S512x1024 .fp8e4m3) (s : FVec F S512x8 .f32) : FVec F S512x128 .bf16 :=
  mulf (extf .bf16 (extractStridedSlice S512x128 ![0, o] x ho) bitsLt_fp8e4m3_bf16)
    (truncf .bf16 (broadcastTo S512x128 (shapeCast S512x1 (extractStridedSlice S512x1 ![0, q] s hq) shapeCasts_S512x1_S512x1)
      broadcasts_S512x1_S512x128) bitsLt_bf16_f32)

/-- 512 rows of 1024 codes, widened: the eight groups side by side. -/
def wide (x : FVec F S512x1024 .fp8e4m3) (s : FVec F S512x8 .f32) : FVec F S512x1024 .bf16 :=
  shapeCast S512x1024
    (concatenate S512x1024 1
      [⟨S512x128, part 0 0 slices_S512x1024_o0_0_S512x128 slices_S512x8_o0_0_S512x1 x s⟩,
       ⟨S512x128, part 128 1 slices_S512x1024_o0_128_S512x128 slices_S512x8_o0_1_S512x1 x s⟩,
       ⟨S512x128, part 256 2 slices_S512x1024_o0_256_S512x128 slices_S512x8_o0_2_S512x1 x s⟩,
       ⟨S512x128, part 384 3 slices_S512x1024_o0_384_S512x128 slices_S512x8_o0_3_S512x1 x s⟩,
       ⟨S512x128, part 512 4 slices_S512x1024_o0_512_S512x128 slices_S512x8_o0_4_S512x1 x s⟩,
       ⟨S512x128, part 640 5 slices_S512x1024_o0_640_S512x128 slices_S512x8_o0_5_S512x1 x s⟩,
       ⟨S512x128, part 768 6 slices_S512x1024_o0_768_S512x128 slices_S512x8_o0_6_S512x1 x s⟩,
       ⟨S512x128, part 896 7 slices_S512x1024_o0_896_S512x128 slices_S512x8_o0_7_S512x1 x s⟩]
      concatenates_S512x128_S512x128_S512x128_S512x128_S512x128_S512x128_S512x128_S512x128_S512x1024_d1)
    shapeCasts_S512x1024_S512x1024

/-- The x block, widened: from the codes `[1, 512, 1024]` and the scales `[1, 8, 512]`. -/
def wideX (x : Vec F S1x512x1024 .fp8e4m3) (s : Vec F S1x8x512 .f32) : FVec F S512x1024 .bf16 :=
  wide (shapeCast S512x1024 x shapeCasts_S1x512x1024_S512x1024)
    (transpose S512x8 [1, 0] (shapeCast S8x512 s shapeCasts_S1x8x512_S8x512) transposes_S8x512_p1_0_S512x8)

/-- 512 rows of a weight, widened: from the codes `[512, 1024]` and the scales `[8, 512]`. -/
def wideW (w : Vec F S512x1024 .fp8e4m3) (s : Vec F S8x512 .f32) : FVec F S512x1024 .bf16 :=
  wide w (transpose S512x8 [1, 0] (shapeCast S8x512 s shapeCasts_S8x512_S8x512) transposes_S8x512_p1_0_S512x8)

/-! ## The hidden units of 256 features, and the quantiser of one group of 128 -/

/-- The hidden units: the two products, and silu of the one times the other. -/
def hid (x : FVec F S512x1024 .bf16) (g u : FVec F S256x1024 .bf16) : FVec F S512x256 .f32 :=
  k0_pay68 x g x u

/-- The first 128 of them. -/
def lo (h : FVec F S512x256 .f32) : FVec F S512x128 .f32 :=
  extractStridedSlice S512x128 ![0, 0] h slices_S512x256_o0_0_S512x128

/-- The last 128 of them. -/
def hi (h : FVec F S512x256 .f32) : FVec F S512x128 .f32 :=
  extractStridedSlice S512x128 ![0, 128] h slices_S512x256_o0_128_S512x128

/-- Each row's greatest magnitude, over 448. -/
def quo (h : FVec F S512x128 .f32) : FVec F S512x1 .f32 :=
  mulf (shapeCast S512x1 (multiReduction .maximumf [1] S512 (absf h) 0xFF800000#32 reduces_S512x128_S512 (.inl rfl) rfl)
    shapeCasts_S512_S512x1) (broadcast S512x1 (Scalar.ofBits .f32 0x3B124925#32))

/-- One step of the search for the exponent's field: the bit `w` is set where the power of two it gives is reached. -/
def halve (y : FVec F S512x1 .f32) (f : IVec S512x1 32) (w : BitVec 32) : IVec S512x1 32 :=
  select (cmpf .olt y (bitcastToFloat .f32 (ori f (broadcast S512x1 w)))) f (ori f (broadcast S512x1 w))

/-- The word of the scale, from the quotient `y`. -/
def word (y : FVec F S512x1 .f32) : IVec S512x1 32 :=
  let f := minsi (halve y (halve y (halve y (halve y (halve y (halve y (halve y (halve y (broadcast S512x1 0#32)
    1073741824#32) 536870912#32) 268435456#32) 134217728#32) 67108864#32) 33554432#32) 16777216#32) 8388608#32)
    (broadcast S512x1 2063597568#32)
  select (cmpi .eq f (broadcast S512x1 0#32)) (broadcast S512x1 1065353216#32) (addi f (broadcast S512x1 8388608#32))

/-- The scale column of one group. -/
def scale (h : FVec F S512x128 .f32) : FVec F S512x1 .f32 := bitcastToFloat .f32 (word (quo h))

/-- The codes of one group. -/
def codes (h : FVec F S512x128 .f32) : FVec F S1x512x128 .fp8e4m3 :=
  k0_pay74 h (word (quo h))

/-! ## The pieces of one point -/

/-- The codes' pieces, last first, from what the eight pairs of weight rows read. -/
def pieces6 (h : Fin 8 → FVec F S512x256 .f32) : List (View.Piece (Elt F) S1x512x2048 .fp8e4m3) :=
  [⟨Rect.unit ![0, 0, 1920] S1x512x128.size inb_S1x512x2048_S1x512x128_0_0_1920, codes (hi (h 7))⟩,
   ⟨Rect.unit ![0, 0, 1792] S1x512x128.size inb_S1x512x2048_S1x512x128_0_0_1792, codes (lo (h 7))⟩,
   ⟨Rect.unit ![0, 0, 1664] S1x512x128.size inb_S1x512x2048_S1x512x128_0_0_1664, codes (hi (h 6))⟩,
   ⟨Rect.unit ![0, 0, 1536] S1x512x128.size inb_S1x512x2048_S1x512x128_0_0_1536, codes (lo (h 6))⟩,
   ⟨Rect.unit ![0, 0, 1408] S1x512x128.size inb_S1x512x2048_S1x512x128_0_0_1408, codes (hi (h 5))⟩,
   ⟨Rect.unit ![0, 0, 1280] S1x512x128.size inb_S1x512x2048_S1x512x128_0_0_1280, codes (lo (h 5))⟩,
   ⟨Rect.unit ![0, 0, 1152] S1x512x128.size inb_S1x512x2048_S1x512x128_0_0_1152, codes (hi (h 4))⟩,
   ⟨Rect.unit ![0, 0, 1024] S1x512x128.size inb_S1x512x2048_S1x512x128_0_0_1024, codes (lo (h 4))⟩,
   ⟨Rect.unit ![0, 0, 896] S1x512x128.size inb_S1x512x2048_S1x512x128_0_0_896, codes (hi (h 3))⟩,
   ⟨Rect.unit ![0, 0, 768] S1x512x128.size inb_S1x512x2048_S1x512x128_0_0_768, codes (lo (h 3))⟩,
   ⟨Rect.unit ![0, 0, 640] S1x512x128.size inb_S1x512x2048_S1x512x128_0_0_640, codes (hi (h 2))⟩,
   ⟨Rect.unit ![0, 0, 512] S1x512x128.size inb_S1x512x2048_S1x512x128_0_0_512, codes (lo (h 2))⟩,
   ⟨Rect.unit ![0, 0, 384] S1x512x128.size inb_S1x512x2048_S1x512x128_0_0_384, codes (hi (h 1))⟩,
   ⟨Rect.unit ![0, 0, 256] S1x512x128.size inb_S1x512x2048_S1x512x128_0_0_256, codes (lo (h 1))⟩,
   ⟨Rect.unit ![0, 0, 128] S1x512x128.size inb_S1x512x2048_S1x512x128_0_0_128, codes (hi (h 0))⟩,
   ⟨Rect.unit ![0, 0, 0] S1x512x128.size inb_S1x512x2048_S1x512x128_0_0_0, codes (lo (h 0))⟩]

/-- The scales' piece. -/
def pieces7 (h : Fin 8 → FVec F S512x256 .f32) : List (View.Piece (Elt F) S1x16x512 .f32) :=
  [⟨Rect.unit ![0, 0, 0] S1x16x512.size inb_S1x16x512_S1x16x512_0_0_0,
    shapeCast S1x16x512 (transpose S16x512 [1, 0]
      (concatenate S512x16 1
        [⟨S512x1, scale (lo (h 0))⟩, ⟨S512x1, scale (hi (h 0))⟩, ⟨S512x1, scale (lo (h 1))⟩, ⟨S512x1, scale (hi (h 1))⟩, ⟨S512x1, scale (lo (h 2))⟩, ⟨S512x1, scale (hi (h 2))⟩, ⟨S512x1, scale (lo (h 3))⟩, ⟨S512x1, scale (hi (h 3))⟩, ⟨S512x1, scale (lo (h 4))⟩, ⟨S512x1, scale (hi (h 4))⟩, ⟨S512x1, scale (lo (h 5))⟩, ⟨S512x1, scale (hi (h 5))⟩, ⟨S512x1, scale (lo (h 6))⟩, ⟨S512x1, scale (hi (h 6))⟩, ⟨S512x1, scale (lo (h 7))⟩, ⟨S512x1, scale (hi (h 7))⟩]
        concatenates_S512x1_S512x1_S512x1_S512x1_S512x1_S512x1_S512x1_S512x1_S512x1_S512x1_S512x1_S512x1_S512x1_S512x1_S512x1_S512x1_S512x16_d1)
      transposes_S512x16_p1_0_S16x512) shapeCasts_S16x512_S1x16x512⟩]

/-- The four pieces of a widened weight, last first, from what the four pairs of rows and columns read. -/
def piecesW (w : Fin 4 → FVec F S512x1024 .bf16) : List (View.Piece (Elt F) S2048x1024 .bf16) :=
  [⟨Rect.unit ![1536, 0] S512x1024.size inb_S2048x1024_S512x1024_1536_0, w 3⟩,
   ⟨Rect.unit ![1024, 0] S512x1024.size inb_S2048x1024_S512x1024_1024_0, w 2⟩,
   ⟨Rect.unit ![512, 0] S512x1024.size inb_S2048x1024_S512x1024_512_0, w 1⟩,
   ⟨Rect.unit ![0, 0] S512x1024.size inb_S2048x1024_S512x1024_0_0, w 0⟩]

/-- The 256 rows of feature block `n` lie in a weight. -/
theorem inbRow (n : Fin 8) : ∀ a, (![256 * n.val, 0] : Fin 2 → ℕ) a + S256x1024.size a ≤ S2048x1024.size a := by
  revert n; decide

/-- The 512 rows of weight block `n` lie in a weight. -/
theorem inbRowW (n : Fin 4) : ∀ a, (![512 * n.val, 0] : Fin 2 → ℕ) a + S512x1024.size a ≤ S2048x1024.size a := by
  revert n; decide

/-- The 512 columns of weight block `n` lie in its scales. -/
theorem inbColW (n : Fin 4) : ∀ a, (![0, 512 * n.val] : Fin 2 → ℕ) a + S8x512.size a ≤ S8x2048.size a := by
  revert n; decide

/-- The rows of feature block `n` of a weight. -/
abbrev rows (n : Fin 8) : Rect S2048x1024 := Rect.unit ![256 * n.val, 0] S256x1024.size (inbRow n)

/-- The rows of weight block `n`, and its columns of the scales. -/
abbrev rowsW (n : Fin 4) : Rect S2048x1024 := Rect.unit ![512 * n.val, 0] S512x1024.size (inbRowW n)
/-- The columns of the scales of weight block `n`. -/
abbrev colsW (n : Fin 4) : Rect S8x2048 := Rect.unit ![0, 512 * n.val] S8x512.size (inbColW n)

variable (c : Dev nD) (i : grid0.Coords) (arg1 : Memref sig .tc .vmem S1x512x1024 .fp8e4m3) (harg1 : arg1.IsWhole) (arg2 : Memref sig .tc .vmem S1x8x512 .f32) (harg2 : arg2.IsWhole) (arg3 : Memref sig .tc .vmem S2048x1024 .fp8e4m3) (harg3 : arg3.IsWhole) (arg4 : Memref sig .tc .vmem S8x2048 .f32) (harg4 : arg4.IsWhole) (arg5 : Memref sig .tc .vmem S2048x1024 .fp8e4m3) (harg5 : arg5.IsWhole) (arg6 : Memref sig .tc .vmem S8x2048 .f32) (harg6 : arg6.IsWhole) (arg7 : Memref sig .tc .vmem S1x512x2048 .fp8e4m3) (harg7 : arg7.IsWhole) (arg8 : Memref sig .tc .vmem S1x16x512 .f32) (harg8 : arg8.IsWhole) (arg9 : Memref sig .tc .vmem S512x1024 .bf16) (harg9 : arg9.IsWhole) (arg10 : Memref sig .tc .vmem S2048x1024 .bf16) (harg10 : arg10.IsWhole) (arg11 : Memref sig .tc .vmem S2048x1024 .bf16) (harg11 : arg11.IsWhole)
    (x0 : Vec F S1x512x1024 .fp8e4m3) (x1 : Vec F S1x8x512 .f32) (x2 : Vec F S2048x1024 .fp8e4m3) (x3 : Vec F S8x2048 .f32) (x4 : Vec F S2048x1024 .fp8e4m3) (x5 : Vec F S8x2048 .f32) (xs1 : Vec F S2048x1024 .bf16) (xs2 : Vec F S2048x1024 .bf16)

/-- What a point finds in the scratch of the widened x block: what it has just stored there. -/
def xw : FVec F S512x1024 .bf16 :=
  wideX (View.readAt (Elt F) arg1.view (Rect.unit ![0, 0, 0] S1x512x1024.size inb_S1x512x1024_S1x512x1024_0_0_0).toLoadRect (harg1.unread x0))
    (View.readAt (Elt F) arg2.view (Rect.unit ![0, 0, 0] S1x8x512.size inb_S1x8x512_S1x8x512_0_0_0).toLoadRect (harg2.unread x1))

/-- At a later point, the x block that the products read is the one the point has just widened. -/
theorem v68_B : kernelRun0_B.sl.v68 c arg1 harg1 arg2 harg2 arg9 x0 x1 = xw arg1 harg1 arg2 harg2 x0 x1 :=
  (View.readCov_cons_toLoadRect _ _ _ _).trans (by sl_kernel_rfl)

/-- The same at the first point. -/
theorem v68_A : kernelRun0_A.sl.v68 c arg1 harg1 arg2 harg2 arg9 x0 x1 = xw arg1 harg1 arg2 harg2 x0 x1 :=
  (View.readCov_cons_toLoadRect _ _ _ _).trans (by sl_kernel_rfl)

/-- The stores to the codes at a later point, by the named pieces. -/
theorem run_B_6 (hc0 : ¬cond0_0 i) : (kernelRun0_B c i arg1 harg1 arg2 harg2 arg3 harg3 arg4 harg4 arg5 harg5 arg6 harg6 arg7 harg7 arg8 harg8 arg9 harg9 arg10 harg10 arg11 harg11 hc0 x0 x1 x2 x3 x4 x5 xs1 xs2).1 = pieces6
    (fun n => hid (kernelRun0_B.sl.v68 c arg1 harg1 arg2 harg2 arg9 x0 x1) (View.readAt (Elt F) arg10.view (rows n).toLoadRect (harg10.unread xs1))
      (View.readAt (Elt F) arg11.view (rows n).toLoadRect (harg11.unread xs2))) := by
  sl_kernel_rfl

/-- The stores to the scales at a later point, by the named piece. -/
theorem run_B_7 (hc0 : ¬cond0_0 i) : (kernelRun0_B c i arg1 harg1 arg2 harg2 arg3 harg3 arg4 harg4 arg5 harg5 arg6 harg6 arg7 harg7 arg8 harg8 arg9 harg9 arg10 harg10 arg11 harg11 hc0 x0 x1 x2 x3 x4 x5 xs1 xs2).2.1 = pieces7
    (fun n => hid (kernelRun0_B.sl.v68 c arg1 harg1 arg2 harg2 arg9 x0 x1) (View.readAt (Elt F) arg10.view (rows n).toLoadRect (harg10.unread xs1))
      (View.readAt (Elt F) arg11.view (rows n).toLoadRect (harg11.unread xs2))) := by
  sl_kernel_rfl

/-- The stores to the codes at the first point, by the named pieces. -/
theorem run_A_6 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4 x5).1 = pieces6
    (fun n => hid (kernelRun0_A.sl.v68 c arg1 harg1 arg2 harg2 arg9 x0 x1) (arg10.view.readCov (kernelRun0_A.sl.HS1_4 c arg3 harg3 arg4 harg4 x2 x3) (rows n).toLoadRect)
      (arg11.view.readCov (kernelRun0_A.sl.HS2_4 c arg5 harg5 arg6 harg6 x4 x5) (rows n).toLoadRect)) := by
  sl_kernel_rfl

/-- The stores to the scales at the first point, by the named piece. -/
theorem run_A_7 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 = pieces7
    (fun n => hid (kernelRun0_A.sl.v68 c arg1 harg1 arg2 harg2 arg9 x0 x1) (arg10.view.readCov (kernelRun0_A.sl.HS1_4 c arg3 harg3 arg4 harg4 x2 x3) (rows n).toLoadRect)
      (arg11.view.readCov (kernelRun0_A.sl.HS2_4 c arg5 harg5 arg6 harg6 x4 x5) (rows n).toLoadRect)) := by
  sl_kernel_rfl

/-- The four stores to the gate scratch at the first point, by the named pieces. -/
theorem HS1_A : kernelRun0_A.sl.HS1_4 c arg3 harg3 arg4 harg4 x2 x3 = piecesW fun n =>
    wideW (View.readAt (Elt F) arg3.view (rowsW n).toLoadRect (harg3.unread x2)) (View.readAt (Elt F) arg4.view (colsW n).toLoadRect (harg4.unread x3)) := by
  sl_kernel_rfl

/-- The four stores to the up scratch at the first point, by the named pieces. -/
theorem HS2_A : kernelRun0_A.sl.HS2_4 c arg5 harg5 arg6 harg6 x4 x5 = piecesW fun n =>
    wideW (View.readAt (Elt F) arg5.view (rowsW n).toLoadRect (harg5.unread x4)) (View.readAt (Elt F) arg6.view (colsW n).toLoadRect (harg6.unread x5)) := by
  sl_kernel_rfl

/-- The first point leaves those stores in the gate scratch. -/
theorem run_A_S1 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 = kernelRun0_A.sl.HS1_4 c arg3 harg3 arg4 harg4 x2 x3 := by
  sl_kernel_rfl

/-- The first point leaves those stores in the up scratch. -/
theorem run_A_S2 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 = kernelRun0_A.sl.HS2_4 c arg5 harg5 arg6 harg6 x4 x5 := by
  sl_kernel_rfl

end Cert.KernelIdeal.Step

end
-- ==== Proof.KernelValue.lean ====
module
public import proofs.«01_k».proof.Proof.Block
public import proofs.«01_k».proof.Proof.Math
public import Idealize.ShloMosaic.Lib.Pointwise
@[expose] public section
set_option maxRecDepth 16384

/-! What the kernel's blocks hold, index by index, over the extended reals. -/

noncomputable section
namespace Cert.KernelIdeal.Step
open Cert.KernelIdeal Cert.KernelIdeal.Gen Cert.Math Idealize.ShloMosaic Idealize.ShloMosaic.TcCoe Idealize.SL.Sem

/-- A widened block, at an index: the code times the scale of its group. -/
theorem wide_at (x : FVec Ideal S512x1024 .fp8e4m3) (g : FVec Ideal S512x8 .f32) (j0 : Fin 512) (j1 : Fin 1024) :
    wide x g (ix2 j0 j1) = x (ix2 j0 j1) * g (ix2 j0 (grp j1)) := by
  pointwise [wide, part]
  have key : ∀ (a b : Fin 1024) (p q : Fin 8), a = b → p = q → x (ix2 j0 a) * g (ix2 j0 p) = x (ix2 j0 b) * g (ix2 j0 q) := by
    intro a b p q h1 h2; rw [h1, h2]
  have hj := j1.isLt
  split_ifs <;> refine key _ _ _ _ (Fin.ext ?_) (Fin.ext ?_) <;> dsimp <;> omega

/-- The widened x block, at an index. -/
theorem wideX_at (x : FVec Ideal S1x512x1024 .fp8e4m3) (s : FVec Ideal S1x8x512 .f32) (r : Fin 512) (k : Fin 1024) :
    wideX (F := Ideal) x s (ix2 r k) = x (ix3 0 r k) * s (ix3 0 (grp k) r) := by
  unfold wideX
  rw [wide_at]
  pointwise

/-- A widened weight block, at an index. -/
theorem wideW_at (w : FVec Ideal S512x1024 .fp8e4m3) (s : FVec Ideal S8x512 .f32) (r : Fin 512) (k : Fin 1024) :
    wideW (F := Ideal) w s (ix2 r k) = w (ix2 r k) * s (ix2 (grp k) r) := by
  unfold wideW
  rw [wide_at]
  pointwise

/-- The kernel's `g / (1 + exp (-g)) * u` is the logistic form. -/
theorem silu_form (g u : EReal) : g * Ideal.div 1 (1 + Ideal.exp (0 - g)) * u = silu g u := by
  rw [zero_sub]; rfl

/-- A hidden unit, at an index: the two inner products, and silu of the one times the other. -/
theorem hid_at (x : FVec Ideal S512x1024 .bf16) (g u : FVec Ideal S256x1024 .bf16) (r : Fin 512) (j : Fin 256) :
    hid x g u (ix2 r j) = silu (∑ k : Fin 1024, x (ix2 r k) * g (ix2 j k)) (∑ k : Fin 1024, x (ix2 r k) * u (ix2 j k)) := by
  rw [← silu_form]
  pointwise [hid, k0_pay68]

/-- The first 128 columns, at an index. -/
theorem lo_at (h : FVec Ideal S512x256 .f32) (r : Fin 512) (j : Fin 128) : lo h (ix2 r j) = h (ix2 r ⟨j.val, by omega⟩) := by
  pointwise [lo]

/-- The last 128 columns, at an index. -/
theorem hi_at (h : FVec Ideal S512x256 .f32) (r : Fin 512) (j : Fin 128) : hi h (ix2 r j) = h (ix2 r ⟨128 + j.val, by omega⟩) := by
  pointwise [hi]

/-- The quotient column, at a row: the greatest magnitude of the row, over 448. -/
theorem quo_at (h : FVec Ideal S512x128 .f32) (r : Fin 512) : quo h (ix2 r 0) = quot fun x => h (ix2 r x) := by
  unfold quot
  pointwise [quo]

/-- One step of the search, at a row. -/
theorem halve_at (y : FVec Ideal S512x1 .f32) (f : IVec S512x1 32) (w : BitVec 32) (r : Fin 512) :
    halve y f w (ix2 r 0) = Math.step (y (ix2 r 0)) (f (ix2 r 0)) w := by
  unfold Math.step
  pointwise [halve]

/-- The end of the search, at a row: the cap, and the choice between one and the next power of two. -/
theorem word_form (f : IVec S512x1 32) (r : Fin 512) :
    select (cmpi .eq (minsi f (broadcast S512x1 2063597568#32)) (broadcast S512x1 0#32)) (broadcast S512x1 1065353216#32)
        (addi (minsi f (broadcast S512x1 2063597568#32)) (broadcast S512x1 8388608#32)) (ix2 r 0)
      = Scalar.select (IntOp.cmpi .eq (IntOp.minsi (f (ix2 r 0)) 2063597568#32) 0#32) 1065353216#32
          (IntOp.addi (IntOp.minsi (f (ix2 r 0)) 2063597568#32) 8388608#32) := by
  pointwise

/-- The word of the scale, at a row, is the search on that row's quotient. -/
theorem word_at (y : FVec Ideal S512x1 .f32) (r : Fin 512) : word y (ix2 r 0) = Math.word (y (ix2 r 0)) := by
  refine (word_form _ r).trans ?_
  simp only [halve_at]
  rfl

/-- The codes, at an index, from the words of the scales. -/
theorem codes_form (h : FVec Ideal S512x128 .f32) (w : IVec S512x1 32) (r : Fin 512) (x : Fin 128) :
    k0_pay74 h w (ix3 0 r x) = code (h (ix2 r x)) (Ideal.ofBits .f32 (IntOp.subi 2130706432#32 (w (ix2 r 0)))) := by
  unfold code
  pointwise [k0_pay74]

/-- The codes, at an index: the value times two to minus the exponent, clamped. -/
theorem codes_at (h : FVec Ideal S512x128 .f32) (r : Fin 512) (x : Fin 128) :
    codes h (ix3 0 r x) = code (h (ix2 r x)) (pow2 (0 - expo (quot fun x => h (ix2 r x)))) := by
  unfold codes
  rw [codes_form, word_at, quo_at, inv_eq]

/-- The scale, at a row, from its word. -/
theorem scale_form (w : IVec S512x1 32) (r : Fin 512) :
    bitcastToFloat (F := Ideal) .f32 w (ix2 r 0) = Ideal.ofBits .f32 (w (ix2 r 0)) := by
  pointwise

/-- The scale, at a row: two to the exponent. -/
theorem scale_at (h : FVec Ideal S512x128 .f32) (r : Fin 512) :
    scale h (ix2 r 0) = pow2 (expo (quot fun x => h (ix2 r x))) := by
  unfold scale
  rw [scale_form, word_at, quo_at, scale_eq]

end Cert.KernelIdeal.Step
end
-- ==== Proof.KernelBlock.lean ====
module
public import proofs.«01_k».proof.Proof.KernelValue
@[expose] public section
set_option maxRecDepth 16384

/-! What one grid point stores, as one function of the widened x block and the two widened weights. -/

noncomputable section
namespace Cert.KernelIdeal.Step
open Cert.KernelIdeal Cert.KernelIdeal.Gen Cert.Math Idealize.ShloMosaic Idealize.ShloMosaic.TcCoe Idealize.SL.Sem

variable (X : FVec Ideal S512x1024 .bf16) (W1 W2 : FVec Ideal S2048x1024 .bf16)

/-- The hidden unit `f` of row `r` of the block. -/
def unit (r : Fin 512) (f : Fin 2048) : EReal :=
  silu (∑ k : Fin 1024, X (ix2 r k) * W1 (ix2 f k)) (∑ k : Fin 1024, X (ix2 r k) * W2 (ix2 f k))

/-- The exponent of group `q` of row `r` of the block. -/
def unitExpo (r : Fin 512) (q : Fin 16) : EReal :=
  expo (quot fun x => unit X W1 W2 r ⟨q.val * 128 + x.val, by omega⟩)

/-- The block of codes. -/
def blk6 : FVec Ideal S1x512x2048 .fp8e4m3 := fun i =>
  code (unit X W1 W2 (i 1) (i 2)) (pow2 (0 - unitExpo X W1 W2 (i 1) ⟨(i 2).val / 128, by have : (i 2).val < 2048 := (i 2).isLt; omega⟩))

/-- The block of scales. -/
def blk7 : FVec Ideal S1x16x512 .f32 := fun i => pow2 (unitExpo X W1 W2 (i 2) (i 1))

/-- The rows of feature block `n` of a widened weight. -/
def rowsOf (W : FVec Ideal S2048x1024 .bf16) (n : Fin 8) : FVec Ideal S256x1024 .bf16 := fun j => W ((rows n).emb j)

/-- The rows of weight block `n`, and its columns of the scales. -/
def rowsWOf (w : FVec Ideal S2048x1024 .fp8e4m3) (n : Fin 4) : FVec Ideal S512x1024 .fp8e4m3 := fun j => w ((rowsW n).emb j)
/-- The columns of weight block `n` of the scales. -/
def colsWOf (s : FVec Ideal S8x2048 .f32) (n : Fin 4) : FVec Ideal S8x512 .f32 := fun j => s ((colsW n).emb j)

/-- What feature block `n` computes. -/
def hs (n : Fin 8) : FVec Ideal S512x256 .f32 := hid X (rowsOf W1 n) (rowsOf W2 n)

/-- Row `j` of feature block `n` is row `256 n + j` of the weight. -/
theorem ld_rows (W : FVec Ideal S2048x1024 .bf16) (n : Fin 8) (j : Fin 256) (k : Fin 1024) :
    rowsOf W n (ix2 j k) = W (ix2 ⟨256 * n.val + j.val, by omega⟩ k) := by
  refine congrArg W (funext fun a => Fin.ext ?_)
  match a with
  | ⟨0, _⟩ => show 256 * n.val + 1 * j.val = 256 * n.val + j.val; omega
  | ⟨1, _⟩ => show 0 + 1 * k.val = k.val; omega

/-- Feature block `n` computes the hidden units `256 n` to `256 n + 255` of each row. -/
theorem hs_at (n : Fin 8) (r : Fin 512) (j : Fin 256) :
    hs X W1 W2 n (ix2 r j) = unit X W1 W2 r ⟨256 * n.val + j.val, by omega⟩ := by
  unfold hs unit
  rw [hid_at]
  simp only [ld_rows]

/-- The codes of one group, at an index: each hidden unit over the group's scale, clamped. -/
theorem piece_at (h : FVec Ideal S512x128 .f32) (q : Fin 16) (o : ℕ) (ho : o = 128 * q.val)
    (inb : ∀ a, (![0, 0, o] : Fin 3 → ℕ) a + S1x512x128.size a ≤ S1x512x2048.size a)
    (hh : ∀ r x, h (ix2 r x) = unit X W1 W2 r ⟨q.val * 128 + x.val, by omega⟩) (j : S1x512x128.Idx) :
    codes h j = blk6 X W1 W2 ((Rect.unit (s := S1x512x2048) ![0, 0, o] S1x512x128.size inb).emb j) := by
  obtain ⟨j0, r, x, rfl⟩ : ∃ (j0 : Fin 1) (r : Fin 512) (x : Fin 128), j = ix3 j0 r x := ⟨j 0, j 1, j 2, by funext a; match a with | ⟨0, _⟩ => rfl | ⟨1, _⟩ => rfl | ⟨2, _⟩ => rfl⟩
  obtain rfl : j0 = 0 := Fin.ext (by omega)
  have e : (Rect.unit (s := S1x512x2048) ![0, 0, o] S1x512x128.size inb).emb (ix3 0 r x) = ix3 0 r ⟨q.val * 128 + x.val, by omega⟩ := by
    funext a
    refine Fin.ext ?_
    match a with
    | ⟨0, _⟩ => rfl
    | ⟨1, _⟩ => show 0 + 1 * r.val = r.val; omega
    | ⟨2, _⟩ => show o + 1 * x.val = q.val * 128 + x.val; omega
  rw [e, codes_at]
  simp only [hh]
  have e2 : (⟨(q.val * 128 + x.val) / 128, by omega⟩ : Fin 16) = q := Fin.ext (by dsimp only; omega)
  exact congrArg (fun q' => code (unit X W1 W2 r ⟨q.val * 128 + x.val, by omega⟩) (pow2 (0 - unitExpo X W1 W2 r q'))) e2.symm

/-- The first half of feature block `n` is group `2 n` of the hidden units. -/
theorem lo_hs (n : Fin 8) (q : Fin 16) (hq : q.val = 2 * n.val) (r : Fin 512) (x : Fin 128) :
    lo (hs X W1 W2 n) (ix2 r x) = unit X W1 W2 r ⟨q.val * 128 + x.val, by omega⟩ := by
  rw [lo_at, hs_at]
  exact congrArg (unit X W1 W2 r) (Fin.ext (by dsimp only; omega))

/-- The second half of feature block `n` is group `2 n + 1` of the hidden units. -/
theorem hi_hs (n : Fin 8) (q : Fin 16) (hq : q.val = 2 * n.val + 1) (r : Fin 512) (x : Fin 128) :
    hi (hs X W1 W2 n) (ix2 r x) = unit X W1 W2 r ⟨q.val * 128 + x.val, by omega⟩ := by
  rw [hi_at, hs_at]
  exact congrArg (unit X W1 W2 r) (Fin.ext (by dsimp only; omega))

/-- The sixteen pieces of codes make up the block of codes. -/
theorem canon6 : View.canon (pieces6 (hs X W1 W2)) = blk6 X W1 W2 := by
  funext y
  refine View.canon_apply_of_pieces (blk6 X W1 W2) _ ?_ y (View.cover_of_tiledL (pieces6 (hs X W1 W2)) S1x512x128.size (by sl_kernel_rfl) y)
  have L := fun (n : Fin 8) (q : Fin 16) (hq : q.val = 2 * n.val) (o : ℕ) (ho : o = 128 * q.val) inb =>
    piece_at X W1 W2 (lo (hs X W1 W2 n)) q o ho inb (lo_hs X W1 W2 n q hq)
  have H := fun (n : Fin 8) (q : Fin 16) (hq : q.val = 2 * n.val + 1) (o : ℕ) (ho : o = 128 * q.val) inb =>
    piece_at X W1 W2 (hi (hs X W1 W2 n)) q o ho inb (hi_hs X W1 W2 n q hq)
  unfold pieces6
  refine List.forall_mem_cons.2 ⟨H 7 15 rfl _ rfl inb_S1x512x2048_S1x512x128_0_0_1920, List.forall_mem_cons.2 ⟨L 7 14 rfl _ rfl inb_S1x512x2048_S1x512x128_0_0_1792, ?_⟩⟩
  refine List.forall_mem_cons.2 ⟨H 6 13 rfl _ rfl inb_S1x512x2048_S1x512x128_0_0_1664, List.forall_mem_cons.2 ⟨L 6 12 rfl _ rfl inb_S1x512x2048_S1x512x128_0_0_1536, ?_⟩⟩
  refine List.forall_mem_cons.2 ⟨H 5 11 rfl _ rfl inb_S1x512x2048_S1x512x128_0_0_1408, List.forall_mem_cons.2 ⟨L 5 10 rfl _ rfl inb_S1x512x2048_S1x512x128_0_0_1280, ?_⟩⟩
  refine List.forall_mem_cons.2 ⟨H 4 9 rfl _ rfl inb_S1x512x2048_S1x512x128_0_0_1152, List.forall_mem_cons.2 ⟨L 4 8 rfl _ rfl inb_S1x512x2048_S1x512x128_0_0_1024, ?_⟩⟩
  refine List.forall_mem_cons.2 ⟨H 3 7 rfl _ rfl inb_S1x512x2048_S1x512x128_0_0_896, List.forall_mem_cons.2 ⟨L 3 6 rfl _ rfl inb_S1x512x2048_S1x512x128_0_0_768, ?_⟩⟩
  refine List.forall_mem_cons.2 ⟨H 2 5 rfl _ rfl inb_S1x512x2048_S1x512x128_0_0_640, List.forall_mem_cons.2 ⟨L 2 4 rfl _ rfl inb_S1x512x2048_S1x512x128_0_0_512, ?_⟩⟩
  refine List.forall_mem_cons.2 ⟨H 1 3 rfl _ rfl inb_S1x512x2048_S1x512x128_0_0_384, List.forall_mem_cons.2 ⟨L 1 2 rfl _ rfl inb_S1x512x2048_S1x512x128_0_0_256, ?_⟩⟩
  exact List.forall_mem_cons.2 ⟨H 0 1 rfl _ rfl inb_S1x512x2048_S1x512x128_0_0_128, List.forall_mem_cons.2 ⟨L 0 0 rfl _ rfl inb_S1x512x2048_S1x512x128_0_0_0, fun p hp => absurd hp List.not_mem_nil⟩⟩

/-- The scale column of group `q`. -/
def col (q : Fin 16) : FVec Ideal S512x1 .f32 :=
  scale (if q.val % 2 = 0 then lo (hs X W1 W2 ⟨q.val / 2, by omega⟩) else hi (hs X W1 W2 ⟨q.val / 2, by omega⟩))

/-- The scale column of group `q`, at a row. -/
theorem col_at (q : Fin 16) (r : Fin 512) : col X W1 W2 q (ix2 r 0) = pow2 (unitExpo X W1 W2 r q) := by
  unfold col unitExpo
  rw [scale_at]
  by_cases h : q.val % 2 = 0
  · rw [if_pos h]
    simp only [lo_hs X W1 W2 ⟨q.val / 2, by omega⟩ q (by dsimp only; omega)]
  · rw [if_neg h]
    simp only [hi_hs X W1 W2 ⟨q.val / 2, by omega⟩ q (by dsimp only; omega)]

/-- The turned and cast array of scales, at an index. -/
theorem turn_at (v : FVec Ideal S512x16 .f32) (q : Fin 16) (s : Fin 512) :
    shapeCast S1x16x512 (transpose S16x512 [1, 0] v transposes_S512x16_p1_0_S16x512) shapeCasts_S16x512_S1x16x512 (ix3 0 q s) = v (ix2 s q) := by
  pointwise

/-- Sixteen columns side by side, at an index. -/
theorem cat_at (c : Fin 16 → FVec Ideal S512x1 .f32) (q : Fin 16) (s : Fin 512) :
    shapeCast S1x16x512 (transpose S16x512 [1, 0]
      (concatenate S512x16 1
        [⟨S512x1, c 0⟩, ⟨S512x1, c 1⟩, ⟨S512x1, c 2⟩, ⟨S512x1, c 3⟩, ⟨S512x1, c 4⟩, ⟨S512x1, c 5⟩, ⟨S512x1, c 6⟩, ⟨S512x1, c 7⟩,
         ⟨S512x1, c 8⟩, ⟨S512x1, c 9⟩, ⟨S512x1, c 10⟩, ⟨S512x1, c 11⟩, ⟨S512x1, c 12⟩, ⟨S512x1, c 13⟩, ⟨S512x1, c 14⟩, ⟨S512x1, c 15⟩]
        concatenates_S512x1_S512x1_S512x1_S512x1_S512x1_S512x1_S512x1_S512x1_S512x1_S512x1_S512x1_S512x1_S512x1_S512x1_S512x1_S512x1_S512x16_d1)
      transposes_S512x16_p1_0_S16x512) shapeCasts_S16x512_S1x16x512 (ix3 0 q s) = c q (ix2 s 0) :=
  (turn_at _ q s).trans (concatenate_ofFn_unit_apply (t := S512x16) (s₁ := S512x1) 1 c
    concatenates_S512x1_S512x1_S512x1_S512x1_S512x1_S512x1_S512x1_S512x1_S512x1_S512x1_S512x1_S512x1_S512x1_S512x1_S512x1_S512x1_S512x16_d1
    rfl rfl (ix2 s q) q rfl (ix2 s 0) (fun b hb => by
      match b with
      | ⟨0, _⟩ => rfl
      | ⟨1, _⟩ => exact absurd rfl hb))

/-- The one piece of scales is the block of scales. -/
theorem canon7 : View.canon (pieces7 (hs X W1 W2)) = blk7 X W1 W2 := by
  have hz : (![0, 0, 0] : Fin 3 → ℕ) = fun _ => 0 := by decide
  unfold pieces7
  refine (View.canon_unit_zero hz _ _).trans ?_
  funext i
  obtain ⟨i0, q, s, rfl⟩ : ∃ (i0 : Fin 1) (q : Fin 16) (s : Fin 512), i = ix3 i0 q s := ⟨i 0, i 1, i 2, by funext a; match a with | ⟨0, _⟩ => rfl | ⟨1, _⟩ => rfl | ⟨2, _⟩ => rfl⟩
  obtain rfl : i0 = 0 := Fin.ext (by omega)
  exact (cat_at (col X W1 W2) q s).trans (col_at X W1 W2 q s)

/-! ## The widened weights -/

/-- A whole weight, widened. -/
def wd (w : FVec Ideal S2048x1024 .fp8e4m3) (s : FVec Ideal S8x2048 .f32) : FVec Ideal S2048x1024 .bf16 := fun i =>
  w i * s (ix2 (grp (i 1)) (i 0))

/-- A widened weight block, at an index, is the widened weight there. -/
theorem pieceW_at (w : FVec Ideal S2048x1024 .fp8e4m3) (s : FVec Ideal S8x2048 .f32) (n : Fin 4) (j : S512x1024.Idx) :
    wideW (F := Ideal) (rowsWOf w n) (colsWOf s n) j
      = wd w s ((rowsW n).emb j) := by
  obtain ⟨r, k, rfl⟩ : ∃ (r : Fin 512) (k : Fin 1024), j = ix2 r k := ⟨j 0, j 1, by funext a; match a with | ⟨0, _⟩ => rfl | ⟨1, _⟩ => rfl⟩
  have e : (rowsW n).emb (ix2 r k) = ix2 ⟨512 * n.val + r.val, by omega⟩ k := by
    funext a
    refine Fin.ext ?_
    match a with
    | ⟨0, _⟩ => show 512 * n.val + 1 * r.val = 512 * n.val + r.val; omega
    | ⟨1, _⟩ => show 0 + 1 * k.val = k.val; omega
  have e1 : rowsWOf w n (ix2 r k) = w (ix2 ⟨512 * n.val + r.val, by omega⟩ k) := congrArg w e
  have e2 : colsWOf s n (ix2 (grp k) r) = s (ix2 (grp k) ⟨512 * n.val + r.val, by omega⟩) := by
    refine congrArg s (funext fun a => Fin.ext ?_)
    match a with
    | ⟨0, _⟩ => show 0 + 1 * (grp k).val = (grp k).val; omega
    | ⟨1, _⟩ => show 512 * n.val + 1 * r.val = 512 * n.val + r.val; omega
  rw [wideW_at, e, e1, e2]
  rfl

/-- The four pieces of a widened weight make up the whole of it. -/
theorem canonW (w : FVec Ideal S2048x1024 .fp8e4m3) (s : FVec Ideal S8x2048 .f32) :
    View.canon (piecesW fun n => wideW (F := Ideal) (rowsWOf w n) (colsWOf s n))
      = wd w s := by
  funext y
  refine View.canon_apply_of_pieces (wd w s) _ ?_ y (View.cover_of_tiledL (piecesW fun n => wideW (F := Ideal) (rowsWOf w n) (colsWOf s n)) S512x1024.size (by sl_kernel_rfl) y)
  unfold piecesW
  exact List.forall_mem_cons.2 ⟨pieceW_at w s 3, List.forall_mem_cons.2 ⟨pieceW_at w s 2, List.forall_mem_cons.2 ⟨pieceW_at w s 1,
    List.forall_mem_cons.2 ⟨pieceW_at w s 0, fun p hp => absurd hp List.not_mem_nil⟩⟩⟩⟩

end Cert.KernelIdeal.Step
end
-- ==== Proof.KernelPoint.lean ====
module
public import proofs.«01_k».proof.Proof.KernelBlock
@[expose] public section
set_option maxRecDepth 16384

/-! What one grid point leaves in its two blocks and in the scratch of the widened weights. -/

noncomputable section
namespace Cert.KernelIdeal.Step
open Cert.KernelIdeal Cert.KernelIdeal.Gen Cert.Math Idealize.ShloMosaic Idealize.ShloMosaic.TcCoe Idealize.SL.Sem

/-- The load of a feature block of a widened weight. -/
theorem rd_rows (a : Memref sig .tc .vmem S2048x1024 .bf16) (ha : a.IsWhole) (w : Vec Ideal S2048x1024 .bf16) (n : Fin 8) :
    View.readAt (Elt Ideal) a.view (rows n).toLoadRect (ha.unread w) = rowsOf w n := by
  rw [View.readAt_eq_ld, ha.read_unread]
  rfl

/-- The load of a weight block. -/
theorem rd_rowsW (a : Memref sig .tc .vmem S2048x1024 .fp8e4m3) (ha : a.IsWhole) (w : Vec Ideal S2048x1024 .fp8e4m3) (n : Fin 4) :
    View.readAt (Elt Ideal) a.view (rowsW n).toLoadRect (ha.unread w) = rowsWOf w n := by
  rw [View.readAt_eq_ld, ha.read_unread]
  rfl

/-- The load of a weight block's scales. -/
theorem rd_colsW (a : Memref sig .tc .vmem S8x2048 .f32) (ha : a.IsWhole) (w : Vec Ideal S8x2048 .f32) (n : Fin 4) :
    View.readAt (Elt Ideal) a.view (colsW n).toLoadRect (ha.unread w) = colsWOf w n := by
  rw [View.readAt_eq_ld, ha.read_unread]
  rfl

/-- The load of the whole x block. -/
theorem rd_x (a : Memref sig .tc .vmem S1x512x1024 .fp8e4m3) (ha : a.IsWhole) (w : Vec Ideal S1x512x1024 .fp8e4m3) :
    View.readAt (Elt Ideal) a.view (Rect.unit ![0, 0, 0] S1x512x1024.size inb_S1x512x1024_S1x512x1024_0_0_0).toLoadRect (ha.unread w) = w := by
  rw [View.readAt_eq_ld, ha.read_unread]
  exact View.ld_unit_zero (S := S1x512x1024) (by decide) _ w

/-- The load of the x block's scales. -/
theorem rd_xs (a : Memref sig .tc .vmem S1x8x512 .f32) (ha : a.IsWhole) (w : Vec Ideal S1x8x512 .f32) :
    View.readAt (Elt Ideal) a.view (Rect.unit ![0, 0, 0] S1x8x512.size inb_S1x8x512_S1x8x512_0_0_0).toLoadRect (ha.unread w) = w := by
  rw [View.readAt_eq_ld, ha.read_unread]
  exact View.ld_unit_zero (S := S1x8x512) (by decide) _ w

variable (c : Dev nD) (i : grid0.Coords) (arg1 : Memref sig .tc .vmem S1x512x1024 .fp8e4m3) (harg1 : arg1.IsWhole) (arg2 : Memref sig .tc .vmem S1x8x512 .f32) (harg2 : arg2.IsWhole) (arg3 : Memref sig .tc .vmem S2048x1024 .fp8e4m3) (harg3 : arg3.IsWhole) (arg4 : Memref sig .tc .vmem S8x2048 .f32) (harg4 : arg4.IsWhole) (arg5 : Memref sig .tc .vmem S2048x1024 .fp8e4m3) (harg5 : arg5.IsWhole) (arg6 : Memref sig .tc .vmem S8x2048 .f32) (harg6 : arg6.IsWhole) (arg7 : Memref sig .tc .vmem S1x512x2048 .fp8e4m3) (harg7 : arg7.IsWhole) (arg8 : Memref sig .tc .vmem S1x16x512 .f32) (harg8 : arg8.IsWhole) (arg9 : Memref sig .tc .vmem S512x1024 .bf16) (harg9 : arg9.IsWhole) (arg10 : Memref sig .tc .vmem S2048x1024 .bf16) (harg10 : arg10.IsWhole) (arg11 : Memref sig .tc .vmem S2048x1024 .bf16) (harg11 : arg11.IsWhole)
    (x0 : Vec Ideal S1x512x1024 .fp8e4m3) (x1 : Vec Ideal S1x8x512 .f32) (x2 : Vec Ideal S2048x1024 .fp8e4m3) (x3 : Vec Ideal S8x2048 .f32) (x4 : Vec Ideal S2048x1024 .fp8e4m3) (x5 : Vec Ideal S8x2048 .f32) (xs1 : Vec Ideal S2048x1024 .bf16) (xs2 : Vec Ideal S2048x1024 .bf16)

/-- The x block that the products read is the widened x block. -/
theorem xw_eq : xw (F := Ideal) arg1 harg1 arg2 harg2 x0 x1 = wideX (F := Ideal) x0 x1 := by
  unfold xw
  rw [rd_x, rd_xs]

/-- The first point's stores to the gate scratch make up the widened gate weight. -/
theorem canon_HS1 : View.canon (kernelRun0_A.sl.HS1_4 (F := Ideal) c arg3 harg3 arg4 harg4 x2 x3) = wd x2 x3 := by
  rw [HS1_A]
  simp only [rd_rowsW, rd_colsW]
  exact canonW x2 x3

/-- What the first point reads of the gate scratch is that weight's rows. -/
theorem cov_HS1 (n : Fin 8) : arg10.view.readCov (kernelRun0_A.sl.HS1_4 (F := Ideal) c arg3 harg3 arg4 harg4 x2 x3) (rows n).toLoadRect
    = rowsOf (wd x2 x3) n := by
  rw [View.readCov_eq_canon', canon_HS1]
  rfl

/-- The first point leaves the widened gate weight in its scratch. -/
theorem sout_A_1 (hc0 : cond0_0 i) : sout0_A_1 c i arg1 harg1 arg2 harg2 arg3 harg3 arg4 harg4 arg5 harg5 arg6 harg6 arg7 harg7 arg8 harg8 arg9 harg9 arg10 harg10 arg11 harg11 hc0 x0 x1 x2 x3 x4 x5 = wd x2 x3 := by
  unfold sout0_A_1
  rw [View.read_writes_junk_eq_canon, run_A_S1, canon_HS1]

/-- The first point's stores to the up scratch make up the widened up weight. -/
theorem canon_HS2 : View.canon (kernelRun0_A.sl.HS2_4 (F := Ideal) c arg5 harg5 arg6 harg6 x4 x5) = wd x4 x5 := by
  rw [HS2_A]
  simp only [rd_rowsW, rd_colsW]
  exact canonW x4 x5

/-- What the first point reads of the up scratch is that weight's rows. -/
theorem cov_HS2 (n : Fin 8) : arg11.view.readCov (kernelRun0_A.sl.HS2_4 (F := Ideal) c arg5 harg5 arg6 harg6 x4 x5) (rows n).toLoadRect
    = rowsOf (wd x4 x5) n := by
  rw [View.readCov_eq_canon', canon_HS2]
  rfl

/-- The first point leaves the widened up weight in its scratch. -/
theorem sout_A_2 (hc0 : cond0_0 i) : sout0_A_2 c i arg1 harg1 arg2 harg2 arg3 harg3 arg4 harg4 arg5 harg5 arg6 harg6 arg7 harg7 arg8 harg8 arg9 harg9 arg10 harg10 arg11 harg11 hc0 x0 x1 x2 x3 x4 x5 = wd x4 x5 := by
  unfold sout0_A_2
  rw [View.read_writes_junk_eq_canon, run_A_S2, canon_HS2]

/-- The codes of a later point, from its x block and the weights that it finds in the scratch. -/
theorem out_B_6 (hc0 : ¬cond0_0 i) : out0_B_6 c i arg1 harg1 arg2 harg2 arg3 harg3 arg4 harg4 arg5 harg5 arg6 harg6 arg7 harg7 arg8 harg8 arg9 harg9 arg10 harg10 arg11 harg11 hc0 x0 x1 x2 x3 x4 x5 xs1 xs2
    = blk6 (wideX (F := Ideal) x0 x1) xs1 xs2 := by
  unfold out0_B_6
  rw [View.read_writes_junk_eq_canon, run_B_6, v68_B, xw_eq]
  simp only [rd_rows]
  exact canon6 _ _ _

/-- The codes of the first point, from its x block and the weights that it widens. -/
theorem out_A_6 (hc0 : cond0_0 i) : out0_A_6 c i arg1 harg1 arg2 harg2 arg3 harg3 arg4 harg4 arg5 harg5 arg6 harg6 arg7 harg7 arg8 harg8 arg9 harg9 arg10 harg10 arg11 harg11 hc0 x0 x1 x2 x3 x4 x5
    = blk6 (wideX (F := Ideal) x0 x1) (wd x2 x3) (wd x4 x5) := by
  unfold out0_A_6
  rw [View.read_writes_junk_eq_canon, run_A_6, v68_A, xw_eq]
  simp only [cov_HS1, cov_HS2]
  exact canon6 _ _ _

/-- The scales of a later point, from its x block and the weights that it finds in the scratch. -/
theorem out_B_7 (hc0 : ¬cond0_0 i) : out0_B_7 c i arg1 harg1 arg2 harg2 arg3 harg3 arg4 harg4 arg5 harg5 arg6 harg6 arg7 harg7 arg8 harg8 arg9 harg9 arg10 harg10 arg11 harg11 hc0 x0 x1 x2 x3 x4 x5 xs1 xs2
    = blk7 (wideX (F := Ideal) x0 x1) xs1 xs2 := by
  unfold out0_B_7
  rw [View.read_writes_junk_eq_canon, run_B_7, v68_B, xw_eq]
  simp only [rd_rows]
  exact canon7 _ _ _

/-- The scales of the first point, from its x block and the weights that it widens. -/
theorem out_A_7 (hc0 : cond0_0 i) : out0_A_7 c i arg1 harg1 arg2 harg2 arg3 harg3 arg4 harg4 arg5 harg5 arg6 harg6 arg7 harg7 arg8 harg8 arg9 harg9 arg10 harg10 arg11 harg11 hc0 x0 x1 x2 x3 x4 x5
    = blk7 (wideX (F := Ideal) x0 x1) (wd x2 x3) (wd x4 x5) := by
  unfold out0_A_7
  rw [View.read_writes_junk_eq_canon, run_A_7, v68_A, xw_eq]
  simp only [cov_HS1, cov_HS2]
  exact canon7 _ _ _

end Cert.KernelIdeal.Step
end
-- ==== Proof.KernelRun.lean ====
module
public import proofs.«01_k».proof.Proof.KernelPoint
@[expose] public section
set_option maxRecDepth 16384

/-! The kernel's two results after the whole run, index by index: the codes and the scales of `Cert.Math`. -/

noncomputable section
namespace Cert.KernelIdeal.Step
open Cert.KernelIdeal Cert.KernelIdeal.Gen Cert.KernelIdeal.Value Cert.Math Idealize.ShloMosaic Idealize.ShloMosaic.TcCoe Idealize.SL.Sem

variable (m : (ℓ : Loc nD τ sig) → Buf (Elt Ideal) ℓ) (c : Dev nD)

/-! ## The arguments, and what the launch finds in the transposed scales -/

/-- The arguments: the codes of x. -/
abbrev A0 : FVec Ideal S6x2048x1024 .fp8e4m3 := m ((c : Thread nD τ).loc main_arg0)
/-- The scales of x. -/
abbrev A1 : FVec Ideal S6x2048x8 .f32 := m ((c : Thread nD τ).loc main_arg1)
/-- The codes of the gate weight. -/
abbrev A2 : FVec Ideal S2048x1024 .fp8e4m3 := m ((c : Thread nD τ).loc main_arg2)
/-- The scales of the gate weight. -/
abbrev A3 : FVec Ideal S2048x8 .f32 := m ((c : Thread nD τ).loc main_arg3)
/-- The codes of the up weight. -/
abbrev A4 : FVec Ideal S2048x1024 .fp8e4m3 := m ((c : Thread nD τ).loc main_arg4)
/-- The scales of the up weight. -/
abbrev A5 : FVec Ideal S2048x8 .f32 := m ((c : Thread nD τ).loc main_arg5)

/-- The call's second operand is the scales of x, transposed. -/
theorem V_v0 : V m c main_v0 = transpose S6x8x2048 [0, 2, 1] (A1 m c) transposes_S6x2048x8_S6x8x2048_0_2_1 := by
  unfold_abbrev_sides
  after_results

/-- The call's fourth operand is the gate weight's scales, transposed. -/
theorem V_v1 : V m c main_v1 = transpose S8x2048 [1, 0] (A3 m c) transposes_S2048x8_S8x2048_1_0 := by
  unfold_abbrev_sides
  after_results

/-- The call's sixth operand is the up weight's scales, transposed. -/
theorem V_v2 : V m c main_v2 = transpose S8x2048 [1, 0] (A5 m c) transposes_S2048x8_S8x2048_1_0 := by
  unfold_abbrev_sides
  after_results

/-- The transposed scales of x, at an index. -/
theorem turnX (v : FVec Ideal S6x2048x8 .f32) (b : Fin 6) (g : Fin 8) (s : Fin 2048) :
    transpose S6x8x2048 [0, 2, 1] v transposes_S6x2048x8_S6x8x2048_0_2_1 (ix3 b g s) = v (ix3 b s g) := by
  pointwise

/-- The transposed scales of a weight, at an index. -/
theorem turnW (v : FVec Ideal S2048x8 .f32) (g : Fin 8) (f : Fin 2048) :
    transpose S8x2048 [1, 0] v transposes_S2048x8_S8x2048_1_0 (ix2 g f) = v (ix2 f g) := by
  pointwise

/-! ## The windows' blocks at a point -/

/-- There are 24 points. -/
theorem lt24 (t : Fin cfg0.N) : t.val < 24 := lt_of_lt_of_eq t.isLt (show cfg0.N = 24 from N_0)

/-- Point `t` takes row block `t % 4` of batch `t / 4` of the codes of x. -/
theorem index0 : ∀ t : Fin cfg0.N, win0_0.index t = ![t.val / 4, t.val % 4, 0] := (by decide +kernel : ∀ t : Fin grid0.N, _)
/-- Point `t` takes the scales of the same rows. -/
theorem index1 : ∀ t : Fin cfg0.N, win0_1.index t = ![t.val / 4, 0, t.val % 4] := (by decide +kernel : ∀ t : Fin grid0.N, _)
/-- Every point takes the whole gate weight. -/
theorem index2 : ∀ t : Fin cfg0.N, win0_2.index t = ![0, 0] := (by decide +kernel : ∀ t : Fin grid0.N, _)
/-- Every point takes all of the gate weight's scales. -/
theorem index3 : ∀ t : Fin cfg0.N, win0_3.index t = ![0, 0] := (by decide +kernel : ∀ t : Fin grid0.N, _)
/-- Every point takes the whole up weight. -/
theorem index4 : ∀ t : Fin cfg0.N, win0_4.index t = ![0, 0] := (by decide +kernel : ∀ t : Fin grid0.N, _)
/-- Every point takes all of the up weight's scales. -/
theorem index5 : ∀ t : Fin cfg0.N, win0_5.index t = ![0, 0] := (by decide +kernel : ∀ t : Fin grid0.N, _)

/-- The batch of point `t`, and row `r` of its block in the array. -/
abbrev bat (t : Fin cfg0.N) : Fin 6 := ⟨t.val / 4, by have := lt24 t; omega⟩
/-- Row `r` of the block of point `t`, in its batch. -/
abbrev row (t : Fin cfg0.N) (r : Fin 512) : Fin 2048 := ⟨t.val % 4 * 512 + r.val, by omega⟩

/-- Point `t`'s block of the codes of x, at an index. -/
theorem iblk0_at (t : Fin cfg0.N) (r : Fin 512) (k : Fin 1024) :
    (iblk m c 0 t : FVec Ideal S1x512x1024 .fp8e4m3) (ix3 0 r k) = A0 m c (ix3 (bat t) (row t r) k) := by
  show V m c main_arg0 (((cfg0.win 0).blk t).view.emb (ix3 0 r k)) = _
  rw [V_main_arg0]
  refine congrArg (A0 m c) (funext fun a => Fin.ext ?_)
  have e := index0 t
  match a with
  | ⟨0, _⟩ => show win0_0.index t 0 * 1 + 1 * 0 = t.val / 4; rw [e]; show t.val / 4 * 1 + 1 * 0 = t.val / 4; omega
  | ⟨1, _⟩ => show win0_0.index t 1 * 512 + 1 * r.val = t.val % 4 * 512 + r.val; rw [e]; show t.val % 4 * 512 + 1 * r.val = t.val % 4 * 512 + r.val; omega
  | ⟨2, _⟩ => show win0_0.index t 2 * 1024 + 1 * k.val = k.val; rw [e]; show 0 * 1024 + 1 * k.val = k.val; omega

/-- Point `t`'s block of the scales of x, at an index. -/
theorem iblk1_at (t : Fin cfg0.N) (g : Fin 8) (r : Fin 512) :
    (iblk m c 1 t : FVec Ideal S1x8x512 .f32) (ix3 0 g r) = A1 m c (ix3 (bat t) (row t r) g) := by
  rw [← turnX (A1 m c) (bat t) g (row t r), ← V_v0]
  show V m c main_v0 (((cfg0.win 1).blk t).view.emb (ix3 0 g r)) = _
  refine congrArg (V m c main_v0) (funext fun a => Fin.ext ?_)
  have e := index1 t
  match a with
  | ⟨0, _⟩ => show win0_1.index t 0 * 1 + 1 * 0 = t.val / 4; rw [e]; show t.val / 4 * 1 + 1 * 0 = t.val / 4; omega
  | ⟨1, _⟩ => show win0_1.index t 1 * 8 + 1 * g.val = g.val; rw [e]; show 0 * 8 + 1 * g.val = g.val; omega
  | ⟨2, _⟩ => show win0_1.index t 2 * 512 + 1 * r.val = t.val % 4 * 512 + r.val; rw [e]; show t.val % 4 * 512 + 1 * r.val = t.val % 4 * 512 + r.val; omega

/-- Point `t`'s gate weight, at an index. -/
theorem iblk2_at (t : Fin cfg0.N) (f : Fin 2048) (k : Fin 1024) :
    (iblk m c 2 t : FVec Ideal S2048x1024 .fp8e4m3) (ix2 f k) = A2 m c (ix2 f k) := by
  show V m c main_arg2 (((cfg0.win 2).blk t).view.emb (ix2 f k)) = _
  rw [V_main_arg2]
  refine congrArg (A2 m c) (funext fun a => Fin.ext ?_)
  have e := index2 t
  match a with
  | ⟨0, _⟩ => show win0_2.index t 0 * 2048 + 1 * f.val = f.val; rw [e]; show 0 * 2048 + 1 * f.val = f.val; omega
  | ⟨1, _⟩ => show win0_2.index t 1 * 1024 + 1 * k.val = k.val; rw [e]; show 0 * 1024 + 1 * k.val = k.val; omega

/-- Point `t`'s up weight, at an index. -/
theorem iblk4_at (t : Fin cfg0.N) (f : Fin 2048) (k : Fin 1024) :
    (iblk m c 4 t : FVec Ideal S2048x1024 .fp8e4m3) (ix2 f k) = A4 m c (ix2 f k) := by
  show V m c main_arg4 (((cfg0.win 4).blk t).view.emb (ix2 f k)) = _
  rw [V_main_arg4]
  refine congrArg (A4 m c) (funext fun a => Fin.ext ?_)
  have e := index4 t
  match a with
  | ⟨0, _⟩ => show win0_4.index t 0 * 2048 + 1 * f.val = f.val; rw [e]; show 0 * 2048 + 1 * f.val = f.val; omega
  | ⟨1, _⟩ => show win0_4.index t 1 * 1024 + 1 * k.val = k.val; rw [e]; show 0 * 1024 + 1 * k.val = k.val; omega

/-- Point `t`'s scales of the gate weight, at an index. -/
theorem iblk3_at (t : Fin cfg0.N) (g : Fin 8) (f : Fin 2048) :
    (iblk m c 3 t : FVec Ideal S8x2048 .f32) (ix2 g f) = A3 m c (ix2 f g) := by
  rw [← turnW (A3 m c) g f, ← V_v1]
  show V m c main_v1 (((cfg0.win 3).blk t).view.emb (ix2 g f)) = _
  refine congrArg (V m c main_v1) (funext fun a => Fin.ext ?_)
  have e := index3 t
  match a with
  | ⟨0, _⟩ => show win0_3.index t 0 * 8 + 1 * g.val = g.val; rw [e]; show 0 * 8 + 1 * g.val = g.val; omega
  | ⟨1, _⟩ => show win0_3.index t 1 * 2048 + 1 * f.val = f.val; rw [e]; show 0 * 2048 + 1 * f.val = f.val; omega

/-- Point `t`'s scales of the up weight, at an index. -/
theorem iblk5_at (t : Fin cfg0.N) (g : Fin 8) (f : Fin 2048) :
    (iblk m c 5 t : FVec Ideal S8x2048 .f32) (ix2 g f) = A5 m c (ix2 f g) := by
  rw [← turnW (A5 m c) g f, ← V_v2]
  show V m c main_v2 (((cfg0.win 5).blk t).view.emb (ix2 g f)) = _
  refine congrArg (V m c main_v2) (funext fun a => Fin.ext ?_)
  have e := index5 t
  match a with
  | ⟨0, _⟩ => show win0_5.index t 0 * 8 + 1 * g.val = g.val; rw [e]; show 0 * 8 + 1 * g.val = g.val; omega
  | ⟨1, _⟩ => show win0_5.index t 1 * 2048 + 1 * f.val = f.val; rw [e]; show 0 * 2048 + 1 * f.val = f.val; omega

/-! ## What the launch carries from point to point -/

/-- A weight, widened by its scales: what every point finds in the scratch. -/
def wide2 (w : FVec Ideal S2048x1024 .fp8e4m3) (s : FVec Ideal S2048x8 .f32) : FVec Ideal S2048x1024 .bf16 := fun i =>
  w i * s (ix2 (i 0) (grp (i 1)))

/-- An index of a weight is the pair of its coordinates. -/
theorem eta2 (i : S2048x1024.Idx) : i = ix2 (i 0) (i 1) := by
  funext a
  match a with
  | ⟨0, _⟩ => rfl
  | ⟨1, _⟩ => rfl

/-- The gate weight that a point would widen is the widened argument. -/
theorem wd_gate (t : Fin cfg0.N) : wd (iblk m c 2 t) (iblk m c 3 t) = wide2 (A2 m c) (A3 m c) := by
  funext i
  rw [eta2 i]
  exact congrArg₂ (fun x y : EReal => x * y) (iblk2_at m c t (i 0) (i 1)) (iblk3_at m c t (grp (i 1)) (i 0))

/-- The up weight that a point would widen is the widened argument. -/
theorem wd_up (t : Fin cfg0.N) : wd (iblk m c 4 t) (iblk m c 5 t) = wide2 (A4 m c) (A5 m c) := by
  funext i
  rw [eta2 i]
  exact congrArg₂ (fun x y : EReal => x * y) (iblk4_at m c t (i 0) (i 1)) (iblk5_at m c t (grp (i 1)) (i 0))

/-- After every point the scratch holds the two widened weights: the first point puts them there, the later ones leave them. -/
theorem carried : ∀ (n : ℕ) (hn : n < cfg0.N), (outsAt0 m c n hn).2.2.1 = wide2 (A2 m c) (A3 m c) ∧ (outsAt0 m c n hn).2.2.2 = wide2 (A4 m c) (A5 m c)
  | n, hn => by
    by_cases h0 : n % 24 = 0
    · rw [outsAt0_A m c ⟨n, hn⟩ h0]
      dsimp only
      rw [sout_A_1, sout_A_2]
      exact ⟨wd_gate m c _, wd_up m c _⟩
    · have hp : n - 1 < n := by omega
      have ih := carried (n - 1) (lt_trans hp hn)
      rw [outsAt0_B m c ⟨n, hn⟩ h0]
      exact ih
  termination_by n => n

/-- The x block of point `t`, widened. -/
abbrev xAt (t : Fin cfg0.N) : FVec Ideal S512x1024 .bf16 := wideX (F := Ideal) (iblk m c 0 t) (iblk m c 1 t)

/-- The codes that point `t` leaves, from its x block and the two widened arguments. -/
theorem outs6 (t : Fin cfg0.N) : (outsAt0 m c t.val t.isLt).1 = blk6 (xAt m c t) (wide2 (A2 m c) (A3 m c)) (wide2 (A4 m c) (A5 m c)) := by
  by_cases h0 : t.val % 24 = 0
  · rw [outsAt0_A m c t h0]
    dsimp only
    rw [out_A_6, wd_gate, wd_up]
  · rw [outsAt0_B m c t h0]
    dsimp only
    rw [out_B_6, (carried m c _ _).1, (carried m c _ _).2]

/-- The scales that point `t` leaves, from its x block and the two widened arguments. -/
theorem outs7 (t : Fin cfg0.N) : (outsAt0 m c t.val t.isLt).2.1 = blk7 (xAt m c t) (wide2 (A2 m c) (A3 m c)) (wide2 (A4 m c) (A5 m c)) := by
  by_cases h0 : t.val % 24 = 0
  · rw [outsAt0_A m c t h0]
    dsimp only
    rw [out_A_7, wd_gate, wd_up]
  · rw [outsAt0_B m c t h0]
    dsimp only
    rw [out_B_7, (carried m c _ _).1, (carried m c _ _).2]

/-! ## The results -/

/-- A hidden unit of point `t` is the hidden unit of its place in the whole array. -/
theorem unit_at (t : Fin cfg0.N) (r : Fin 512) (f : Fin 2048) :
    unit (xAt m c t) (wide2 (A2 m c) (A3 m c)) (wide2 (A4 m c) (A5 m c)) r f
      = hidden (A0 m c) (A1 m c) (A2 m c) (A4 m c) (A3 m c) (A5 m c) (bat t) (row t r) f := by
  unfold unit Math.hidden dot
  simp only [wideX_at, iblk0_at, iblk1_at]
  rfl

/-- The exponent of a group of point `t` is that of its place in the whole array. -/
theorem expo_at (t : Fin cfg0.N) (r : Fin 512) (q : Fin 16) :
    unitExpo (xAt m c t) (wide2 (A2 m c) (A3 m c)) (wide2 (A4 m c) (A5 m c)) r q
      = exponent (A0 m c) (A1 m c) (A2 m c) (A4 m c) (A3 m c) (A5 m c) (bat t) (row t r) q := by
  unfold unitExpo exponent
  simp only [unit_at]

/-- The point that writes row `s` of batch `b`, and the row's place in its block. -/
abbrev pt (b : Fin 6) (s : Fin 2048) : Fin cfg0.N := ⟨4 * b.val + s.val / 512, lt_of_lt_of_eq (by omega : 4 * b.val + s.val / 512 < 24) N_0.symm⟩
/-- The place of row `s` in its block. -/
abbrev off (s : Fin 2048) : Fin 512 := ⟨s.val % 512, by omega⟩

/-- The point that writes row `s` of batch `b` works on batch `b`. -/
theorem bat_pt (b : Fin 6) (s : Fin 2048) : bat (pt b s) = b := Fin.ext (by show (4 * b.val + s.val / 512) / 4 = b.val; omega)
/-- That row is where the point has it. -/
theorem row_pt (b : Fin 6) (s : Fin 2048) : row (pt b s) (off s) = s :=
  Fin.ext (by show (4 * b.val + s.val / 512) % 4 * 512 + s.val % 512 = s.val; omega)

/-- The array of codes after the run, at an index. -/
theorem G6_at (b : Fin 6) (s f : Fin 2048) :
    (G6 m c : FVec Ideal S6x2048x2048 .fp8e4m3) (ix3 b s f) = Codes (A0 m c) (A1 m c) (A2 m c) (A4 m c) (A3 m c) (A5 m c) b s f := by
  have hp : pt6Of (ix3 b s f) = (pt b s).val := by
    show 4 * (b.val / 1 - 0) + 1 * (s.val / 512 - 0) + 1 * (f.val / 2048 - 0) = 4 * b.val + s.val / 512
    omega
  have hl : loc6Of (ix3 b s f) = ix3 0 (off s) f := by
    funext a
    refine Fin.ext ?_
    match a with
    | ⟨0, _⟩ => show b.val % 1 = 0; omega
    | ⟨1, _⟩ => rfl
    | ⟨2, _⟩ => show f.val % 2048 = f.val; omega
  have hb : 0 + (pt b s).val < cfg0.N := by rw [Nat.zero_add]; exact (pt b s).isLt
  unfold G6
  rw [dif_pos (by rw [hp]; exact (pt b s).isLt), hl, fold0_congr m c _ _ _ hb hp, ← outsAt0_sweep m c (pt b s).val (pt b s).isLt, outs6]
  show code (unit (xAt m c (pt b s)) (wide2 (A2 m c) (A3 m c)) (wide2 (A4 m c) (A5 m c)) (off s) f)
    (pow2 (0 - unitExpo (xAt m c (pt b s)) (wide2 (A2 m c) (A3 m c)) (wide2 (A4 m c) (A5 m c)) (off s) ⟨f.val / 128, by omega⟩)) = _
  rw [unit_at, expo_at, bat_pt, row_pt]
  exact Eq.refl _

/-- The array of scales after the run, at an index. -/
theorem G7_at (b : Fin 6) (q : Fin 16) (s : Fin 2048) :
    (G7 m c : FVec Ideal S6x16x2048 .f32) (ix3 b q s) = Scales (A0 m c) (A1 m c) (A2 m c) (A4 m c) (A3 m c) (A5 m c) b q s := by
  have hp : pt7Of (ix3 b q s) = (pt b s).val := by
    show 4 * (b.val / 1 - 0) + 4 * (q.val / 16 - 0) + 1 * (s.val / 512 - 0) = 4 * b.val + s.val / 512
    omega
  have hl : loc7Of (ix3 b q s) = ix3 0 q (off s) := by
    funext a
    refine Fin.ext ?_
    match a with
    | ⟨0, _⟩ => show b.val % 1 = 0; omega
    | ⟨1, _⟩ => show q.val % 16 = q.val; omega
    | ⟨2, _⟩ => rfl
  have hb : 0 + (pt b s).val < cfg0.N := by rw [Nat.zero_add]; exact (pt b s).isLt
  unfold G7
  rw [dif_pos (by rw [hp]; exact (pt b s).isLt), hl, fold0_congr m c _ _ _ hb hp, ← outsAt0_sweep m c (pt b s).val (pt b s).isLt, outs7]
  show pow2 (unitExpo (xAt m c (pt b s)) (wide2 (A2 m c) (A3 m c)) (wide2 (A4 m c) (A5 m c)) (off s) q) = _
  rw [expo_at, bat_pt, row_pt]
  exact Eq.refl _

end Cert.KernelIdeal.Step
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Reference
public import proofs.«01_k».proof.Proof.KernelRun
public import Idealize.ShloMosaic.Adequacy
public import Idealize.ShloMosaic.Init

@[expose] public section

noncomputable section

/-! The certificate: the three frames (every semaphore counter back at zero), the reading of the kernel over the extended
    reals, and its equality with the reference: both programs end with the codes and the scales of `Cert.Math`. -/

namespace Cert.Proof

open Idealize.ShloMosaic Idealize.SL.Sem Cert.Kernel

/-- The reference's codes on the kernel's arguments are the kernel's. -/
theorem codes_eq (m : (ℓ : Loc Cert.KernelIdeal.nD Cert.KernelIdeal.τ Cert.KernelIdeal.sig) → Buf (Elt Ideal) ℓ) (c : Dev Cert.KernelIdeal.nD) :
    Cert.ReferenceIdeal.Value.G6 (F := Ideal) (Cert.KernelIdeal.Step.A0 m c) (Cert.KernelIdeal.Step.A1 m c) (Cert.KernelIdeal.Step.A2 m c)
        (Cert.KernelIdeal.Step.A3 m c) (Cert.KernelIdeal.Step.A4 m c) (Cert.KernelIdeal.Step.A5 m c)
      = Cert.KernelIdeal.Value.G6 m c := by
  funext i
  obtain ⟨b, s, f, rfl⟩ : ∃ (b : Fin 6) (s f : Fin 2048), i = ix3 b s f :=
    ⟨i 0, i 1, i 2, by funext a; match a with | ⟨0, _⟩ => rfl | ⟨1, _⟩ => rfl | ⟨2, _⟩ => rfl⟩
  exact (Cert.ReferenceIdeal.Read.codes_at _ _ _ _ _ _ b s f).trans (Cert.KernelIdeal.Step.G6_at m c b s f).symm

/-- The reference's scales on the kernel's arguments are the kernel's. -/
theorem scales_eq (m : (ℓ : Loc Cert.KernelIdeal.nD Cert.KernelIdeal.τ Cert.KernelIdeal.sig) → Buf (Elt Ideal) ℓ) (c : Dev Cert.KernelIdeal.nD) :
    Cert.ReferenceIdeal.Value.G7 (F := Ideal) (Cert.KernelIdeal.Step.A0 m c) (Cert.KernelIdeal.Step.A1 m c) (Cert.KernelIdeal.Step.A2 m c)
        (Cert.KernelIdeal.Step.A3 m c) (Cert.KernelIdeal.Step.A4 m c) (Cert.KernelIdeal.Step.A5 m c)
      = Cert.KernelIdeal.Value.G7 m c := by
  funext i
  obtain ⟨b, q, s, rfl⟩ : ∃ (b : Fin 6) (q : Fin 16) (s : Fin 2048), i = ix3 b q s :=
    ⟨i 0, i 1, i 2, by funext a; match a with | ⟨0, _⟩ => rfl | ⟨1, _⟩ => rfl | ⟨2, _⟩ => rfl⟩
  exact (Cert.ReferenceIdeal.Read.scales_at _ _ _ _ _ _ b q s).trans (Cert.KernelIdeal.Step.G7_at m c b q s).symm

/-- The five claims: the three frames, the reading over the extended reals, and the equality with the reference. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    fun m ρ m' ρ' _ hag => ⟨fun c => Cert.KernelIdeal.Value.G6 m c, fun c => Cert.KernelIdeal.Value.G7 m c,
      Cert.KernelIdeal.Value.run m ρ,
      (θ_run _ _ _).mono (fun r h c => by
        obtain ⟨e0, e1, e2, e3, e4, e5⟩ := hag c
        obtain ⟨h6, h7, hk⟩ := h c
        rw [e0, e1, e2, e3, e4, e5] at h6 h7
        exact ⟨h6.trans (codes_eq m c), h7.trans (scales_eq m c), hk⟩)
        (Cert.ReferenceIdeal.Value.run m' ρ')⟩⟩

end Cert.Proof

end
